-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S6x32x128 : Shape := ⟨3, ![6, 32, 128]⟩
abbrev S6x32 : Shape := ⟨2, ![6, 32]⟩
abbrev S960x180x128 : Shape := ⟨3, ![960, 180, 128]⟩
abbrev S960x180 : Shape := ⟨2, ![960, 180]⟩
abbrev S960 : Shape := ⟨1, ![960]⟩
abbrev S6 : Shape := ⟨1, ![6]⟩
abbrev S_ : Shape := ⟨0, ![]⟩

class Facts : Prop where
  bcast_S_S6x32 : S_.BroadcastsInDim S6x32 (![] : Fin 0 → Fin S6x32.rank)
  reducesTo_S6x32_S_d0_1 : S6x32.ReducesTo [0, 1] S_
  h_S_ : 0 < S_.numel
  bcast_S_S6 : S_.BroadcastsInDim S6 (![] : Fin 0 → Fin S6.rank)
  reducesTo_S6_S_d0 : S6.ReducesTo [0] S_

variable [Facts]

def fn {F : FTy → Type} [FloatOps F] (main_arg0 : FVec F S6x32x128 .fp8e4m3) (main_arg1 : FVec F S6x32 .f32) (main_arg2 : FVec F S960x180x128 .fp8e4m3) (main_arg3 : FVec F S960x180 .f32) (main_arg4 : IVec S960 32) (main_arg5 : IVec S6 32) : IVec S_ 1 :=
  let main_cst : FVec F S_ .f32 := constant S_ .f32 0x00000000#32
  let main_v0 : FVec F S6x32 .f32 := broadcastInDim S6x32 ![] bcast_S_S6x32 main_cst
  let main_v1 : IVec S6x32 1 := cmpf .ogt main_arg1 main_v0
  let main_c : IVec S_ 1 := constantI S_ 1 1#1
  let main_v2 : IVec S_ 1 := (fun x v => Host.reduce IntOp.andi x v reducesTo_S6x32_S_d0_1 h_S_) main_v1 main_c
  let main_c_0 : IVec S_ 32 := constantI S_ 32 0#32
  let main_v3 : IVec S6 32 := broadcastInDim S6 ![] bcast_S_S6 main_c_0
  let main_v4 : IVec S6 1 := cmpi .sge main_arg5 main_v3
  let main_c_1 : IVec S_ 32 := constantI S_ 32 960#32
  let main_v5 : IVec S6 32 := broadcastInDim S6 ![] bcast_S_S6 main_c_1
  let main_v6 : IVec S6 1 := cmpi .slt main_arg5 main_v5
  let main_v7 : IVec S6 1 := andi main_v4 main_v6
  let main_c_2 : IVec S_ 1 := constantI S_ 1 1#1
  let main_v8 : IVec S_ 1 := (fun x v => Host.reduce IntOp.andi x v reducesTo_S6_S_d0 h_S_) main_v7 main_c_2
  let main_v9 : IVec S_ 1 := andi main_v2 main_v8
  main_v9
-- ==== Kernel.lean ====
abbrev S6x32x128 : Shape := ⟨3, ![6, 32, 128]⟩
abbrev S6x32 : Shape := ⟨2, ![6, 32]⟩
abbrev S960x180x128 : Shape := ⟨3, ![960, 180, 128]⟩
abbrev S960x180 : Shape := ⟨2, ![960, 180]⟩
abbrev S960 : Shape := ⟨1, ![960]⟩
abbrev S6 : Shape := ⟨1, ![6]⟩
abbrev S192x128 : Shape := ⟨2, ![192, 128]⟩
abbrev S192x1 : Shape := ⟨2, ![192, 1]⟩
abbrev S180x960x128 : Shape := ⟨3, ![180, 960, 128]⟩
abbrev S180x960 : Shape := ⟨2, ![180, 960]⟩
abbrev S1x960 : Shape := ⟨2, ![1, 960]⟩
abbrev S6x1 : Shape := ⟨2, ![6, 1]⟩
abbrev S6x960 : Shape := ⟨2, ![6, 960]⟩
abbrev S192x960 : Shape := ⟨2, ![192, 960]⟩
abbrev S15 : Shape := ⟨1, ![15]⟩
abbrev S1 : Shape := ⟨1, ![1]⟩
abbrev S_ : Shape := ⟨0, ![]⟩
abbrev S12x960x128 : Shape := ⟨3, ![12, 960, 128]⟩
abbrev S192x256 : Shape := ⟨2, ![192, 256]⟩
abbrev S384x256 : Shape := ⟨2, ![384, 256]⟩
abbrev S1x256x128 : Shape := ⟨3, ![1, 256, 128]⟩
abbrev S256x128 : Shape := ⟨2, ![256, 128]⟩
abbrev S256x256 : Shape := ⟨2, ![256, 256]⟩
abbrev S1x256 : Shape := ⟨2, ![1, 256]⟩
abbrev S1x192x128 : Shape := ⟨3, ![1, 192, 128]⟩
abbrev S384x192 : Shape := ⟨2, ![384, 192]⟩
abbrev S1x192 : Shape := ⟨2, ![1, 192]⟩
abbrev S192x192 : Shape := ⟨2, ![192, 192]⟩
abbrev S6x32x960 : Shape := ⟨3, ![6, 32, 960]⟩
abbrev S6x960x32 : Shape := ⟨3, ![6, 960, 32]⟩

abbrev nBuf : Space → Nat
  | .hbm => 18
  | .vmem => 9
  | .smem => 0
  | _ => 0

abbrev bufTy : (tb : Table) → Fin (tcTables nBuf tb) → BufTy
  | .hbm, ⟨0, _⟩ => ⟨S6x32x128, .fp8e4m3⟩
  | .hbm, ⟨1, _⟩ => ⟨S6x32, .f32⟩
  | .hbm, ⟨2, _⟩ => ⟨S960x180x128, .fp8e4m3⟩
  | .hbm, ⟨3, _⟩ => ⟨S960x180, .f32⟩
  | .hbm, ⟨4, _⟩ => ⟨S960, .i32⟩
  | .hbm, ⟨5, _⟩ => ⟨S6, .i32⟩
  | .hbm, ⟨6, _⟩ => ⟨S192x128, .fp8e4m3⟩
  | .hbm, ⟨7, _⟩ => ⟨S192x1, .f32⟩
  | .hbm, ⟨8, _⟩ => ⟨S180x960x128, .fp8e4m3⟩
  | .hbm, ⟨9, _⟩ => ⟨S180x960, .f32⟩
  | .hbm, ⟨10, _⟩ => ⟨S1x960, .i32⟩
  | .hbm, ⟨11, _⟩ => ⟨S6x1, .i32⟩
  | .hbm, ⟨12, _⟩ => ⟨S6x960, .f32⟩
  | .hbm, ⟨13, _⟩ => ⟨S6x1, .f32⟩
  | .hbm, ⟨14, _⟩ => ⟨S192x960, .f32⟩
  | .hbm, ⟨15, _⟩ => ⟨S6x32x960, .f32⟩
  | .hbm, ⟨16, _⟩ => ⟨S6x960x32, .f32⟩
  | .hbm, ⟨17, _⟩ => ⟨S6, .f32⟩
  | .local _ .vmem, ⟨0, _⟩ => ⟨S192x128, .fp8e4m3⟩
  | .local _ .vmem, ⟨1, _⟩ => ⟨S192x1, .f32⟩
  | .local _ .vmem, ⟨2, _⟩ => ⟨S180x960, .f32⟩
  | .local _ .vmem, ⟨3, _⟩ => ⟨S1x960, .i32⟩
  | .local _ .vmem, ⟨4, _⟩ => ⟨S6x1, .i32⟩
  | .local _ .vmem, ⟨5, _⟩ => ⟨S6x960, .f32⟩
  | .local _ .vmem, ⟨6, _⟩ => ⟨S6x1, .f32⟩
  | .local _ .vmem, ⟨7, _⟩ => ⟨S192x960, .f32⟩
  | .local _ .vmem, ⟨8, _⟩ => ⟨S180x960x128, .fp8e4m3⟩
  | _, _ => ⟨S6x32x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

@[reducible] def k0_t1_loop : Scf.Loop 32 :=
  let c0_i32_81 : BitVec 32 := 0#32
  let c15_i32 : BitVec 32 := 15#32
  let v68 : BitVec 32 := Scalar.addi c0_i32_81 c15_i32
  let c1_i32_82 : BitVec 32 := 1#32
  ⟨c0_i32_81, v68, c1_i32_82⟩
def k0_off1 (k0_t1 : Fin k0_t1_loop.trips) : Fin 1 → Nat :=
  let c0_i32_81 : BitVec 32 := 0#32
  let c1_i32_82 : BitVec 32 := 1#32
  let arg11 : BitVec 32 := Scf.iv c0_i32_81 c1_i32_82 k0_t1
  ![arg11.toNat]
def k0_off2 (k0_t1 : Fin k0_t1_loop.trips) : Fin 3 → Nat :=
  let c0_i32_81 : BitVec 32 := 0#32
  let c1_i32_82 : BitVec 32 := 1#32
  let arg11 : BitVec 32 := Scf.iv c0_i32_81 c1_i32_82 k0_t1
  let c12_i32_103 : BitVec 32 := 12#32
  let v103 : BitVec 32 := Scalar.muli arg11 c12_i32_103
  let c0_i32_104 : BitVec 32 := 0#32
  let c0_i32_105 : BitVec 32 := 0#32
  ![v103.toNat, 0, 0]
def k0_off3 (k0_t1 : Fin k0_t1_loop.trips) (c0_i32_109 : BitVec 32) : Fin 3 → Nat :=
  let c0_i32_81 : BitVec 32 := 0#32
  let c1_i32_82 : BitVec 32 := 1#32
  let arg11 : BitVec 32 := Scf.iv c0_i32_81 c1_i32_82 k0_t1
  let c12_i32_108 : BitVec 32 := 12#32
  let v108 : BitVec 32 := Scalar.muli arg11 c12_i32_108
  let v109 : BitVec 32 := Scalar.addi v108 c0_i32_109
  let v110 : Index := Scalar.indexCast v109
  let c0_110 : Index := 0#32
  let c0_111 : Index := 0#32
  ![v110.toNat, 0, 0]
def k0_off4 (k0_t1 : Fin k0_t1_loop.trips) (c0_i32_109 : BitVec 32) : Fin 3 → Nat :=
  let c0_i32_81 : BitVec 32 := 0#32
  let c1_i32_82 : BitVec 32 := 1#32
  let arg11 : BitVec 32 := Scf.iv c0_i32_81 c1_i32_82 k0_t1
  let c12_i32_108 : BitVec 32 := 12#32
  let v108 : BitVec 32 := Scalar.muli arg11 c12_i32_108
  let v109 : BitVec 32 := Scalar.addi v108 c0_i32_109
  let c1_i32_112 : BitVec 32 := 1#32
  let v113 : BitVec 32 := Scalar.addi v109 c1_i32_112
  let v114 : Index := Scalar.indexCast v113
  let c0_113 : Index := 0#32
  let c0_114 : Index := 0#32
  ![v114.toNat, 0, 0]
def k0_off5 (k0_t1 : Fin k0_t1_loop.trips) (c0_i32_109 : BitVec 32) : Fin 2 → Nat :=
  let c0_i32_81 : BitVec 32 := 0#32
  let c1_i32_82 : BitVec 32 := 1#32
  let arg11 : BitVec 32 := Scf.iv c0_i32_81 c1_i32_82 k0_t1
  let c12_i32_108 : BitVec 32 := 12#32
  let v108 : BitVec 32 := Scalar.muli arg11 c12_i32_108
  let v109 : BitVec 32 := Scalar.addi v108 c0_i32_109
  let v122 : Index := Scalar.indexCast v109
  let c0_118 : Index := 0#32
  ![v122.toNat, 0]
def k0_off6 (k0_t1 : Fin k0_t1_loop.trips) (c0_i32_109 : BitVec 32) : Fin 2 → Nat :=
  let c0_i32_81 : BitVec 32 := 0#32
  let c1_i32_82 : BitVec 32 := 1#32
  let arg11 : BitVec 32 := Scf.iv c0_i32_81 c1_i32_82 k0_t1
  let c12_i32_108 : BitVec 32 := 12#32
  let v108 : BitVec 32 := Scalar.muli arg11 c12_i32_108
  let v109 : BitVec 32 := Scalar.addi v108 c0_i32_109
  let c1_i32_119 : BitVec 32 := 1#32
  let v128 : BitVec 32 := Scalar.addi v109 c1_i32_119
  let v129 : Index := Scalar.indexCast v128
  let c0_120 : Index := 0#32
  ![v129.toNat, 0]
def k0_off7 (k0_t1 : Fin k0_t1_loop.trips) (c0_i32_109 : BitVec 32) : Fin 3 → Nat :=
  let c0_i32_81 : BitVec 32 := 0#32
  let c1_i32_82 : BitVec 32 := 1#32
  let arg11 : BitVec 32 := Scf.iv c0_i32_81 c1_i32_82 k0_t1
  let c12_i32_108 : BitVec 32 := 12#32
  let v108 : BitVec 32 := Scalar.muli arg11 c12_i32_108
  let v109 : BitVec 32 := Scalar.addi v108 c0_i32_109
  let v152 : Index := Scalar.indexCast v109
  let c256 : Index := 256#32
  let c0_128 : Index := 0#32
  ![v152.toNat, 256, 0]
def k0_off8 (k0_t1 : Fin k0_t1_loop.trips) (c0_i32_109 : BitVec 32) : Fin 3 → Nat :=
  let c0_i32_81 : BitVec 32 := 0#32
  let c1_i32_82 : BitVec 32 := 1#32
  let arg11 : BitVec 32 := Scf.iv c0_i32_81 c1_i32_82 k0_t1
  let c12_i32_108 : BitVec 32 := 12#32
  let v108 : BitVec 32 := Scalar.muli arg11 c12_i32_108
  let v109 : BitVec 32 := Scalar.addi v108 c0_i32_109
  let c1_i32_129 : BitVec 32 := 1#32
  let v155 : BitVec 32 := Scalar.addi v109 c1_i32_129
  let v156 : Index := Scalar.indexCast v155
  let c256_130 : Index := 256#32
  let c0_131 : Index := 0#32
  ![v156.toNat, 256, 0]
def k0_off9 (k0_t1 : Fin k0_t1_loop.trips) (c0_i32_109 : BitVec 32) : Fin 2 → Nat :=
  let c0_i32_81 : BitVec 32 := 0#32
  let c1_i32_82 : BitVec 32 := 1#32
  let arg11 : BitVec 32 := Scf.iv c0_i32_81 c1_i32_82 k0_t1
  let c12_i32_108 : BitVec 32 := 12#32
  let v108 : BitVec 32 := Scalar.muli arg11 c12_i32_108
  let v109 : BitVec 32 := Scalar.addi v108 c0_i32_109
  let v164 : Index := Scalar.indexCast v109
  let c256_135 : Index := 256#32
  ![v164.toNat, 256]
def k0_off10 (k0_t1 : Fin k0_t1_loop.trips) (c0_i32_109 : BitVec 32) : Fin 2 → Nat :=
  let c0_i32_81 : BitVec 32 := 0#32
  let c1_i32_82 : BitVec 32 := 1#32
  let arg11 : BitVec 32 := Scf.iv c0_i32_81 c1_i32_82 k0_t1
  let c12_i32_108 : BitVec 32 := 12#32
  let v108 : BitVec 32 := Scalar.muli arg11 c12_i32_108
  let v109 : BitVec 32 := Scalar.addi v108 c0_i32_109
  let c1_i32_136 : BitVec 32 := 1#32
  let v170 : BitVec 32 := Scalar.addi v109 c1_i32_136
  let v171 : Index := Scalar.indexCast v170
  let c256_137 : Index := 256#32
  ![v171.toNat, 256]
def k0_off11 (k0_t1 : Fin k0_t1_loop.trips) (c0_i32_109 : BitVec 32) : Fin 3 → Nat :=
  let c0_i32_81 : BitVec 32 := 0#32
  let c1_i32_82 : BitVec 32 := 1#32
  let arg11 : BitVec 32 := Scf.iv c0_i32_81 c1_i32_82 k0_t1
  let c12_i32_108 : BitVec 32 := 12#32
  let v108 : BitVec 32 := Scalar.muli arg11 c12_i32_108
  let v109 : BitVec 32 := Scalar.addi v108 c0_i32_109
  let v194 : Index := Scalar.indexCast v109
  let c512 : Index := 512#32
  let c0_145 : Index := 0#32
  ![v194.toNat, 512, 0]
def k0_off12 (k0_t1 : Fin k0_t1_loop.trips) (c0_i32_109 : BitVec 32) : Fin 3 → Nat :=
  let c0_i32_81 : BitVec 32 := 0#32
  let c1_i32_82 : BitVec 32 := 1#32
  let arg11 : BitVec 32 := Scf.iv c0_i32_81 c1_i32_82 k0_t1
  let c12_i32_108 : BitVec 32 := 12#32
  let v108 : BitVec 32 := Scalar.muli arg11 c12_i32_108
  let v109 : BitVec 32 := Scalar.addi v108 c0_i32_109
  let c1_i32_146 : BitVec 32 := 1#32
  let v197 : BitVec 32 := Scalar.addi v109 c1_i32_146
  let v198 : Index := Scalar.indexCast v197
  let c512_147 : Index := 512#32
  let c0_148 : Index := 0#32
  ![v198.toNat, 512, 0]
def k0_off13 (k0_t1 : Fin k0_t1_loop.trips) (c0_i32_109 : BitVec 32) : Fin 2 → Nat :=
  let c0_i32_81 : BitVec 32 := 0#32
  let c1_i32_82 : BitVec 32 := 1#32
  let arg11 : BitVec 32 := Scf.iv c0_i32_81 c1_i32_82 k0_t1
  let c12_i32_108 : BitVec 32 := 12#32
  let v108 : BitVec 32 := Scalar.muli arg11 c12_i32_108
  let v109 : BitVec 32 := Scalar.addi v108 c0_i32_109
  let v206 : Index := Scalar.indexCast v109
  let c512_152 : Index := 512#32
  ![v206.toNat, 512]
def k0_off14 (k0_t1 : Fin k0_t1_loop.trips) (c0_i32_109 : BitVec 32) : Fin 2 → Nat :=
  let c0_i32_81 : BitVec 32 := 0#32
  let c1_i32_82 : BitVec 32 := 1#32
  let arg11 : BitVec 32 := Scf.iv c0_i32_81 c1_i32_82 k0_t1
  let c12_i32_108 : BitVec 32 := 12#32
  let v108 : BitVec 32 := Scalar.muli arg11 c12_i32_108
  let v109 : BitVec 32 := Scalar.addi v108 c0_i32_109
  let c1_i32_153 : BitVec 32 := 1#32
  let v212 : BitVec 32 := Scalar.addi v109 c1_i32_153
  let v213 : Index := Scalar.indexCast v212
  let c512_154 : Index := 512#32
  ![v213.toNat, 512]
def k0_off15 (k0_t1 : Fin k0_t1_loop.trips) (c0_i32_109 : BitVec 32) : Fin 3 → Nat :=
  let c0_i32_81 : BitVec 32 := 0#32
  let c1_i32_82 : BitVec 32 := 1#32
  let arg11 : BitVec 32 := Scf.iv c0_i32_81 c1_i32_82 k0_t1
  let c12_i32_108 : BitVec 32 := 12#32
  let v108 : BitVec 32 := Scalar.muli arg11 c12_i32_108
  let v109 : BitVec 32 := Scalar.addi v108 c0_i32_109
  let v236 : Index := Scalar.indexCast v109
  let c768 : Index := 768#32
  let c0_162 : Index := 0#32
  ![v236.toNat, 768, 0]
def k0_off16 (k0_t1 : Fin k0_t1_loop.trips) (c0_i32_109 : BitVec 32) : Fin 3 → Nat :=
  let c0_i32_81 : BitVec 32 := 0#32
  let c1_i32_82 : BitVec 32 := 1#32
  let arg11 : BitVec 32 := Scf.iv c0_i32_81 c1_i32_82 k0_t1
  let c12_i32_108 : BitVec 32 := 12#32
  let v108 : BitVec 32 := Scalar.muli arg11 c12_i32_108
  let v109 : BitVec 32 := Scalar.addi v108 c0_i32_109
  let c1_i32_163 : BitVec 32 := 1#32
  let v239 : BitVec 32 := Scalar.addi v109 c1_i32_163
  let v240 : Index := Scalar.indexCast v239
  let c768_164 : Index := 768#32
  let c0_165 : Index := 0#32
  ![v240.toNat, 768, 0]
def k0_off17 (k0_t1 : Fin k0_t1_loop.trips) (c0_i32_109 : BitVec 32) : Fin 2 → Nat :=
  let c0_i32_81 : BitVec 32 := 0#32
  let c1_i32_82 : BitVec 32 := 1#32
  let arg11 : BitVec 32 := Scf.iv c0_i32_81 c1_i32_82 k0_t1
  let c12_i32_108 : BitVec 32 := 12#32
  let v108 : BitVec 32 := Scalar.muli arg11 c12_i32_108
  let v109 : BitVec 32 := Scalar.addi v108 c0_i32_109
  let v248 : Index := Scalar.indexCast v109
  let c768_169 : Index := 768#32
  ![v248.toNat, 768]
def k0_off18 (k0_t1 : Fin k0_t1_loop.trips) (c0_i32_109 : BitVec 32) : Fin 2 → Nat :=
  let c0_i32_81 : BitVec 32 := 0#32
  let c1_i32_82 : BitVec 32 := 1#32
  let arg11 : BitVec 32 := Scf.iv c0_i32_81 c1_i32_82 k0_t1
  let c12_i32_108 : BitVec 32 := 12#32
  let v108 : BitVec 32 := Scalar.muli arg11 c12_i32_108
  let v109 : BitVec 32 := Scalar.addi v108 c0_i32_109
  let c1_i32_170 : BitVec 32 := 1#32
  let v254 : BitVec 32 := Scalar.addi v109 c1_i32_170
  let v255 : Index := Scalar.indexCast v254
  let c768_171 : Index := 768#32
  ![v255.toNat, 768]
abbrev stage0_0 : Fin 1 → Memref sig .tc .vmem S192x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S180x960 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x960 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x960 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S192x960 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S6x32x128 : Shape := ⟨3, ![6, 32, 128]⟩
abbrev S6x32 : Shape := ⟨2, ![6, 32]⟩
abbrev S960x180x128 : Shape := ⟨3, ![960, 180, 128]⟩
abbrev S960x180 : Shape := ⟨2, ![960, 180]⟩
abbrev S960 : Shape := ⟨1, ![960]⟩
abbrev S6 : Shape := ⟨1, ![6]⟩
abbrev S180 : Shape := ⟨1, ![180]⟩
abbrev S1x180 : Shape := ⟨2, ![1, 180]⟩
abbrev S960x1 : Shape := ⟨2, ![960, 1]⟩
abbrev S192x128 : Shape := ⟨2, ![192, 128]⟩
abbrev S192 : Shape := ⟨1, ![192]⟩
abbrev S960x180x192 : Shape := ⟨3, ![960, 180, 192]⟩
abbrev S1x1x192 : Shape := ⟨3, ![1, 1, 192]⟩
abbrev S960x180x1 : Shape := ⟨3, ![960, 180, 1]⟩
abbrev S_ : Shape := ⟨0, ![]⟩
abbrev S960x192 : Shape := ⟨2, ![960, 192]⟩
abbrev S960x6x32 : Shape := ⟨3, ![960, 6, 32]⟩
abbrev S6x960x32 : Shape := ⟨3, ![6, 960, 32]⟩
abbrev S6x960 : Shape := ⟨2, ![6, 960]⟩
abbrev S6x1 : Shape := ⟨2, ![6, 1]⟩
abbrev S6x1x1 : Shape := ⟨3, ![6, 1, 1]⟩
abbrev S1 : Shape := ⟨1, ![1]⟩
abbrev S1x1x1 : Shape := ⟨3, ![1, 1, 1]⟩

abbrev nBuf : Space → Nat
  | .hbm => 78
  | .vmem => 4
  | .smem => 0
  | _ => 0

abbrev bufTy : (tb : Table) → Fin (tcTables nBuf tb) → BufTy
  | .hbm, ⟨0, _⟩ => ⟨S6x32x128, .fp8e4m3⟩
  | .hbm, ⟨1, _⟩ => ⟨S6x32, .f32⟩
  | .hbm, ⟨2, _⟩ => ⟨S960x180x128, .fp8e4m3⟩
  | .hbm, ⟨3, _⟩ => ⟨S960x180, .f32⟩
  | .hbm, ⟨4, _⟩ => ⟨S960, .i32⟩
  | .hbm, ⟨5, _⟩ => ⟨S6, .i32⟩
  | .hbm, ⟨6, _⟩ => ⟨S6x32x128, .f32⟩
  | .hbm, ⟨7, _⟩ => ⟨S960x180x128, .f32⟩
  | .hbm, ⟨8, _⟩ => ⟨S180, .i32⟩
  | .hbm, ⟨9, _⟩ => ⟨S1x180, .i32⟩
  | .hbm, ⟨10, _⟩ => ⟨S960x1, .i32⟩
  | .hbm, ⟨11, _⟩ => ⟨S960x180, .i32⟩
  | .hbm, ⟨12, _⟩ => ⟨S960x180, .i32⟩
  | .hbm, ⟨13, _⟩ => ⟨S960x180, .i1⟩
  | .hbm, ⟨14, _⟩ => ⟨S192x128, .f32⟩
  | .hbm, ⟨15, _⟩ => ⟨S192, .f32⟩
  | .hbm, ⟨16, _⟩ => ⟨S960x180x192, .f32⟩
  | .hbm, ⟨17, _⟩ => ⟨S1x1x192, .f32⟩
  | .hbm, ⟨18, _⟩ => ⟨S960x180x192, .f32⟩
  | .hbm, ⟨19, _⟩ => ⟨S960x180x192, .f32⟩
  | .hbm, ⟨20, _⟩ => ⟨S960x180x1, .f32⟩
  | .hbm, ⟨21, _⟩ => ⟨S960x180x192, .f32⟩
  | .hbm, ⟨22, _⟩ => ⟨S960x180x192, .f32⟩
  | .hbm, ⟨23, _⟩ => ⟨S960x180x1, .i1⟩
  | .hbm, ⟨24, _⟩ => ⟨S_, .f32⟩
  | .hbm, ⟨25, _⟩ => ⟨S_, .f32⟩
  | .hbm, ⟨26, _⟩ => ⟨S960x180x192, .i1⟩
  | .hbm, ⟨27, _⟩ => ⟨S960x180x192, .f32⟩
  | .hbm, ⟨28, _⟩ => ⟨S960x180x192, .f32⟩
  | .hbm, ⟨29, _⟩ => ⟨S_, .f32⟩
  | .hbm, ⟨30, _⟩ => ⟨S960x192, .f32⟩
  | .hbm, ⟨31, _⟩ => ⟨S960x6x32, .f32⟩
  | .hbm, ⟨32, _⟩ => ⟨S6x960x32, .f32⟩
  | .hbm, ⟨33, _⟩ => ⟨S_, .f32⟩
  | .hbm, ⟨34, _⟩ => ⟨S6x960, .f32⟩
  | .hbm, ⟨35, _⟩ => ⟨S6x1, .i32⟩
  | .hbm, ⟨36, _⟩ => ⟨S_, .i32⟩
  | .hbm, ⟨37, _⟩ => ⟨S6x1, .i32⟩
  | .hbm, ⟨38, _⟩ => ⟨S6x1, .i1⟩
  | .hbm, ⟨39, _⟩ => ⟨S_, .i32⟩
  | .hbm, ⟨40, _⟩ => ⟨S6x1, .i32⟩
  | .hbm, ⟨41, _⟩ => ⟨S6x1, .i32⟩
  | .hbm, ⟨42, _⟩ => ⟨S6x1, .i32⟩
  | .hbm, ⟨43, _⟩ => ⟨S6x1x1, .i32⟩
  | .hbm, ⟨44, _⟩ => ⟨S1, .i32⟩
  | .hbm, ⟨45, _⟩ => ⟨S_, .i32⟩
  | .hbm, ⟨46, _⟩ => ⟨S6x1x1, .i32⟩
  | .hbm, ⟨47, _⟩ => ⟨S6x1x1, .i1⟩
  | .hbm, ⟨48, _⟩ => ⟨S1x1x1, .i32⟩
  | .hbm, ⟨49, _⟩ => ⟨S6x1x1, .i32⟩
  | .hbm, ⟨50, _⟩ => ⟨S6x1x1, .i1⟩
  | .hbm, ⟨51, _⟩ => ⟨S6x1x1, .i1⟩
  | .hbm, ⟨52, _⟩ => ⟨S_, .i1⟩
  | .hbm, ⟨53, _⟩ => ⟨S6x1, .i1⟩
  | .hbm, ⟨54, _⟩ => ⟨S6x1, .f32⟩
  | .hbm, ⟨55, _⟩ => ⟨S_, .f32⟩
  | .hbm, ⟨56, _⟩ => ⟨S6x1, .f32⟩
  | .hbm, ⟨57, _⟩ => ⟨S6x1, .f32⟩
  | .hbm, ⟨58, _⟩ => ⟨S6, .f32⟩
  | .hbm, ⟨59, _⟩ => ⟨S_, .f32⟩
  | .hbm, ⟨60, _⟩ => ⟨S6, .f32⟩
  | .hbm, ⟨61, _⟩ => ⟨S6, .f32⟩
  | .hbm, ⟨62, _⟩ => ⟨S_, .f32⟩
  | .hbm, ⟨63, _⟩ => ⟨S6, .f32⟩
  | .hbm, ⟨64, _⟩ => ⟨S6, .i1⟩
  | .hbm, ⟨65, _⟩ => ⟨S_, .f32⟩
  | .hbm, ⟨66, _⟩ => ⟨S_, .f32⟩
  | .hbm, ⟨67, _⟩ => ⟨S6, .f32⟩
  | .hbm, ⟨68, _⟩ => ⟨S6, .f32⟩
  | .hbm, ⟨69, _⟩ => ⟨S6x1, .f32⟩
  | .hbm, ⟨70, _⟩ => ⟨S6x960, .f32⟩
  | .hbm, ⟨71, _⟩ => ⟨S6x960, .f32⟩
  | .hbm, ⟨72, _⟩ => ⟨S6x960, .f32⟩
  | .hbm, ⟨73, _⟩ => ⟨S_, .f32⟩
  | .hbm, ⟨74, _⟩ => ⟨S6, .f32⟩
  | .hbm, ⟨75, _⟩ => ⟨S6, .f32⟩
  | .hbm, ⟨76, _⟩ => ⟨S6, .f32⟩
  | .hbm, ⟨77, _⟩ => ⟨S6, .f32⟩
  | .local _ .vmem, ⟨0, _⟩ => ⟨S6x32x128, .fp8e4m3⟩
  | .local _ .vmem, ⟨1, _⟩ => ⟨S960x180x128, .fp8e4m3⟩
  | .local _ .vmem, ⟨2, _⟩ => ⟨S6x32x128, .f32⟩
  | .local _ .vmem, ⟨3, _⟩ => ⟨S960x180x128, .f32⟩
  | _, _ => ⟨S6x32x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_cst : Ref sig .tc := ⟨.hbm, 55, rfl⟩
abbrev main_call1_v14 : Ref sig .tc := ⟨.hbm, 56, rfl⟩
abbrev main_v23 : Ref sig .tc := ⟨.hbm, 57, rfl⟩
abbrev main_v24 : Ref sig .tc := ⟨.hbm, 58, rfl⟩
abbrev main_cst_2 : Ref sig .tc := ⟨.hbm, 59, rfl⟩
abbrev main_v25 : Ref sig .tc := ⟨.hbm, 60, rfl⟩
abbrev main_v26 : Ref sig .tc := ⟨.hbm, 61, rfl⟩
abbrev main_cst_3 : Ref sig .tc := ⟨.hbm, 62, rfl⟩
abbrev main_v27 : Ref sig .tc := ⟨.hbm, 63, rfl⟩
abbrev main_v28 : Ref sig .tc := ⟨.hbm, 64, rfl⟩
abbrev main_cst_4 : Ref sig .tc := ⟨.hbm, 65, rfl⟩
abbrev main_call2_v0 : Ref sig .tc := ⟨.hbm, 66, rfl⟩
abbrev main_call2_v1 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_cst_5 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S6x32x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S960x180x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S960x180x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.SameProgram.lean ====
module

public import proofs.«01_k».proof.Proof.Gen.Kernel
public import proofs.«01_k».proof.Proof.Gen.KernelIdeal
public import proofs.«01_k».proof.Proof.Gen.Kernel.Launch
public import proofs.«01_k».proof.Proof.Gen.KernelIdeal.Launch
public import proofs.«01_k».proof.Defs

@[expose] public section
noncomputable section
namespace Cert.T0
open Idealize.ShloMosaic Idealize.SL.Sem
theorem sig_eq : Cert.Kernel.sig = Cert.KernelIdeal.sig := rfl

set_option maxRecDepth 65536 in
theorem body_eq (F : FTy → Type) [FloatOps F] [hK : Cert.Kernel.Facts] [hI : Cert.KernelIdeal.Facts] : @Cert.Kernel.cc0_maxsim F _ hK = @Cert.KernelIdeal.cc0_maxsim F _ hI := rfl
set_option maxRecDepth 65536 in
theorem main_eq (F : FTy → Type) [FloatOps F] [hK : Cert.Kernel.Facts] [hI : Cert.KernelIdeal.Facts] : @Cert.Kernel.main F _ = @Cert.KernelIdeal.main F _ := rfl
set_option maxRecDepth 65536 in
theorem pcfgs_eq (F : FTy → Type) [FloatOps F]  : @Cert.Kernel.pcfgs F _ = @Cert.KernelIdeal.pcfgs F _ := rfl
set_option maxRecDepth 65536 in
theorem defs0_eq (F : FTy → Type) [FloatOps F] [hK : Cert.Kernel.Facts] [hI : Cert.KernelIdeal.Facts] : @Cert.Kernel.defs₀ F _ _ = @Cert.KernelIdeal.defs₀ F _ _ := by
  unfold Cert.Kernel.defs₀ Cert.KernelIdeal.defs₀
  refine congrArg Defs.onTc ?_
  funext l a
  obtain ⟨n, hn⟩ := l
  cases n with
  | zero => obtain ⟨t, s⟩ := a; rfl
  | succ n => exact absurd hn (Nat.not_lt.2 (Nat.le_add_left _ _))
set_option maxRecDepth 65536 in
theorem defs_eq (F : FTy → Type) [FloatOps F] [hK : Cert.Kernel.Facts] [hI : Cert.KernelIdeal.Facts] : @Cert.Kernel.defs F _ _ = @Cert.KernelIdeal.defs F _ _ :=
  congrArg (Pipeline.defs (@Cert.KernelIdeal.pcfgs F _)) (defs0_eq F)
set_option maxRecDepth 65536 in
theorem frame_of_ideal [hK : Cert.Kernel.Facts] [hI : Cert.KernelIdeal.Facts]
   (h : ∀ (m : (ℓ : Loc Cert.KernelIdeal.nD Cert.KernelIdeal.τ Cert.KernelIdeal.sig) → Buf (Elt Bits) ℓ) (g : Dev Cert.KernelIdeal.nD → PrngReg),
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)) : Cert.quiescent_Kernel := by
  intro m g _
  have h' := h m g
  rw [← defs_eq Bits] at h'
  exact h'
end Cert.T0
-- ==== Proof.Kern.Base.lean ====
/-
  The windows the kernel's own transfers run between: window `k` of the document codes (rows `12 * k` to `12 * k + 11`),
  in the array left in HBM and in the buffer it is copied to, and the cell that window's transfer is counted on.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-- Window `k` of a document-code array, as the trip that waits for it names it. -/
abbrev win {sp : Space} (M : Memref sig .tc sp S180x960x128 .fp8e4m3) (k : Fin k0_t1_loop.trips) : Memref sig .tc sp S12x960x128 .fp8e4m3 :=
  M.slice (Rect.unit (s := S180x960x128) (k0_off2 k) S12x960x128.size (k0_off2_inb k)) (fun _ => rfl)

/-- The cell of window `k`'s transfer. -/
abbrev cell (arg10 : DmaSems sig S15) (k : Fin k0_t1_loop.trips) : DmaSems sig S_ :=
  (arg10.slice (Rect.unit (s := S15) (k0_off1 k) S1.size (k0_off1_inb k))).squeeze S_ squeezes_S1_S_

/-- The transfer of window `k` in flight, delivering the window at the contents `D` beside its source at `f5`. -/
abbrev fly (c : Dev nD) (arg5 : Memref sig .tc .hbm S180x960x128 .fp8e4m3) (arg9 : Memref sig .tc .vmem S180x960x128 .fp8e4m3)
    (arg10 : DmaSems sig S15) (f5 : Buf (Elt F) (arg5.view.loc (c : Thread nD τ))) (D : Buf (Elt F) (arg9.view.loc (c : Thread nD τ)))
    (k : Fin k0_t1_loop.trips) : sProp 𝕄 :=
  Transfers.Flight (countersEmb (U := Pipeline.UD sig nD τ)) (c : Thread nD τ) (SemLoc.dma (cell arg10 k).sem) () ((win arg9 k).view.amount (SemLoc.dma (cell arg10 k).sem))
    iprop(((win arg9 k).view.loc (c : Thread nD τ) ↦[(win arg9 k).view.set]{fullShare} D)
      ∗ ((win arg5 k).view.loc (c : Thread nD τ) ↦[(win arg5 k).view.set]{fullShare} f5))

end Cert.KernelIdeal.Hand

end
-- ==== Proof.Kern.Windows.lean ====
module

public import proofs.«01_k».proof.Proof.Kern.Base

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

theorem off2_eq : ∀ k : Fin k0_t1_loop.trips, k0_off2 k = ![12 * k.val, 0, 0] := by decide +kernel

/-- Window `k`'s rectangle. -/
abbrev winRect (k : Fin k0_t1_loop.trips) : Rect S180x960x128 := Rect.unit (s := S180x960x128) (k0_off2 k) S12x960x128.size (k0_off2_inb k)

/-- The elements of window `k`. -/
def winSet {sp : Space} (M : Memref sig .tc sp S180x960x128 .fp8e4m3) (k : Fin k0_t1_loop.trips) : Finset M.view.ty.Idx :=
  (winRect k).set.map M.view.emb

theorem win_set {sp : Space} (M : Memref sig .tc sp S180x960x128 .fp8e4m3) (k : Fin k0_t1_loop.trips) :
    (win M k).view.set = winSet M k :=
  View.set_slice _ _

theorem rect_disjoint (k k' : Fin k0_t1_loop.trips) (h : k ≠ k') : Disjoint (winRect k).set (winRect k').set :=
  Ring.lead_disjoint (s := S180x960x128) (0 : Fin 3) 12 k0_off2 S12x960x128.size k0_off2_inb
    (fun b => by rw [off2_eq]; rfl) rfl k k' h

theorem rect_cover : Finset.univ.biUnion (fun k => (winRect k).set) = Finset.univ :=
  Ring.lead_cover (s := S180x960x128) (0 : Fin 3) 12 k0_off2 S12x960x128.size k0_off2_inb
    (fun b => by rw [off2_eq]; rfl)
    (fun b a ha => by
      rw [off2_eq]
      match a, ha with
      | 0, ha => exact absurd rfl ha
      | 1, _ => rfl
      | 2, _ => rfl) rfl
    (fun a ha => by
      match a, ha with
      | 0, ha => exact absurd rfl ha
      | 1, _ => rfl
      | 2, _ => rfl) rfl

/-- Two windows share no element. -/
theorem win_disjoint {sp : Space} (M : Memref sig .tc sp S180x960x128 .fp8e4m3) (k k' : Fin k0_t1_loop.trips) (h : k ≠ k') :
    Disjoint (winSet M k) (winSet M k') := by
  unfold winSet
  rw [Finset.disjoint_map]
  exact rect_disjoint k k' h

/-- The windows are the whole buffer. -/
theorem win_cover {sp : Space} (M : Memref sig .tc sp S180x960x128 .fp8e4m3) (hM : M.IsWhole) :
    Finset.univ.biUnion (fun k => winSet M k) = Finset.univ := by
  have h := rect_cover
  have hu := hM.set_eq_univ
  ext i
  simp only [Finset.mem_biUnion, Finset.mem_univ, true_and, iff_true]
  have hi : i ∈ M.view.set := hu ▸ Finset.mem_univ i
  unfold View.set at hi
  obtain ⟨x, -, rfl⟩ := Finset.mem_map.1 hi
  have hx : x ∈ Finset.univ.biUnion (fun k => (winRect k).set) := h ▸ Finset.mem_univ x
  obtain ⟨k, -, hk⟩ := Finset.mem_biUnion.1 hx
  exact ⟨k, Finset.mem_map_of_mem _ hk⟩

/-- A whole buffer is its windows. -/
theorem win_split {sp : Space} (c : Dev nD) (M : Memref sig .tc sp S180x960x128 .fp8e4m3) (hM : M.IsWhole)
    (f : Buf (Elt F) (M.view.loc (c : Thread nD τ))) :
    (M.view.loc (c : Thread nD τ) ↦{fullShare} f : sProp 𝕄)
      = bigSep Finset.univ fun k => (M.view.loc (c : Thread nD τ) ↦[winSet M k]{fullShare} f) := by
  have hd : ∀ b ∈ (Finset.univ : Finset (Fin k0_t1_loop.trips)), ∀ b' ∈ Finset.univ, b ≠ b' → Disjoint (winSet M b) (winSet M b') :=
    fun b _ b' _ h => win_disjoint M b b' h
  have h := pointsTo_biUnion (nD := nD) (τ := τ) (sig := sig) (Ix := Unit) (Val := Elt F) (Name := ℕ) (U := Pipeline.UD sig nD τ) (Lvl := ℕ)
    (q := fullShare) (ℓ := M.view.loc (c : Thread nD τ)) (f := f) Finset.univ (winSet M) hd
  refine Eq.trans ?_ h
  exact congrArg (fun S => (M.view.loc (c : Thread nD τ) ↦[S]{fullShare} f : sProp 𝕄)) (win_cover M hM).symm

/-- What a window's transfer leaves: its destination at the source's contents. -/
theorem win_landed (c : Dev nD) (arg5 : Memref sig .tc .hbm S180x960x128 .fp8e4m3) (arg9 : Memref sig .tc .vmem S180x960x128 .fp8e4m3) (harg9 : arg9.IsWhole)
    (f5 : Buf (Elt F) (arg5.view.loc (c : Thread nD τ))) (f9 : Buf (Elt F) (arg9.view.loc (c : Thread nD τ))) (k : Fin k0_t1_loop.trips) :
    ∀ i ∈ (win arg9 k).view.set, (win arg9 k).view.write (Elt F) f9 ((win arg5 k).view.read (Elt F) f5) Finset.univ i
      = (harg9.unread (arg5.view.read (Elt F) f5) : Buf (Elt F) (arg9.view.loc (c : Thread nD τ))) i := by
  intro i hi
  unfold View.set at hi
  obtain ⟨x, -, rfl⟩ := Finset.mem_map.1 hi
  have h := congrFun (harg9.read_unread (arg5.view.read (Elt F) f5)) ((winRect k).emb x)
  rw [View.write_emb_of_mem _ _ (Finset.mem_univ x)]
  have e : (win arg5 k).view.read (Elt F) f5 x = arg5.view.read (Elt F) f5 ((winRect k).emb x) := rfl
  rw [e, ← h, View.read_apply, cast_cast]
  rfl

end Cert.KernelIdeal.Hand

end
-- ==== Proof.Kern.Start.lean ====
module

public import proofs.«01_k».proof.Proof.Kern.Windows

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The start of window `k`'s transfer. -/
def enqP (arg5 : Memref sig .tc .hbm S180x960x128 .fp8e4m3) (harg5 : arg5.IsWhole) (arg9 : Memref sig .tc .vmem S180x960x128 .fp8e4m3)
    (harg9 : arg9.IsWhole) (arg10 : DmaSems sig S15) (k : Fin k0_t1_loop.trips) : Prog (TpuEff nD τ sig (Elt F) Λ₀ .tc) PUnit :=
  Prog.lift (.enqueueDma (win arg5 k) (.here (win arg9 k)) (.dma (cell arg10 k).sem)
    (harg5.wordExact_slice rfl _ (k0_off2_wordsfp8e4m3 k)) (harg9.wordExact_slice rfl _ (k0_off2_wordsfp8e4m3 k)) ⟨Or.inl rfl, trivial⟩)

/-- What window `k`'s transfer is started from: its source, its destination at anything, its cell at zero. -/
abbrev rest (c : Dev nD) (arg5 : Memref sig .tc .hbm S180x960x128 .fp8e4m3) (arg9 : Memref sig .tc .vmem S180x960x128 .fp8e4m3)
    (arg10 : DmaSems sig S15) (f5 : Buf (Elt F) (arg5.view.loc (c : Thread nD τ))) (f9 : Buf (Elt F) (arg9.view.loc (c : Thread nD τ)))
    (k : Fin k0_t1_loop.trips) : sProp 𝕄 :=
  iprop(((win arg5 k).view.loc (c : Thread nD τ) ↦[(win arg5 k).view.set]{fullShare} f5)
    ∗ ((win arg9 k).view.loc (c : Thread nD τ) ↦[(win arg9 k).view.set]{fullShare} f9)
    ∗ semVal ((c : Thread nD τ), (SemLoc.dma (cell arg10 k).sem)) 0)

theorem trips_eq : k0_t1_loop.trips = 15 := by decide

/-- Trip number `n`. -/
abbrev tr (n : Fin 15) : Fin k0_t1_loop.trips := Fin.cast trips_eq.symm n

theorem enq (c : Dev nD) (arg5 : Memref sig .tc .hbm S180x960x128 .fp8e4m3) (harg5 : arg5.IsWhole) (arg9 : Memref sig .tc .vmem S180x960x128 .fp8e4m3)
    (harg9 : arg9.IsWhole) (arg10 : DmaSems sig S15) (f5 : Buf (Elt F) (arg5.view.loc (c : Thread nD τ))) (f9 : Buf (Elt F) (arg9.view.loc (c : Thread nD τ)))
    (k : Fin k0_t1_loop.trips) (K : PUnit → sProp 𝕄) :
    iprop(rest c arg5 arg9 arg10 f5 f9 k ∗ (fly c arg5 arg9 arg10 f5 (harg9.unread (arg5.view.read (Elt F) f5)) k -∗ K ⟨⟩))
      ⊢ wp frame (wpE (defs₀ (F := F)) Variants.none c none) Set.univ (enqP arg5 harg5 arg9 harg9 arg10 k) K := by
  iintro ⟨⟨H5, H9, Hs⟩, Hk⟩
  unfold enqP
  iapply (Transfers.wp_dmaLocal (countersEmb (U := Pipeline.UD sig nD τ)) Variants.none (c : Thread nD τ) none ()
    ((win arg9 k).view.amount (SemLoc.dma (cell arg10 k).sem)) rfl
    (View.amount_pos _ _ (show 0 < S12x960x128.numel by decide)) (Finset.Subset.refl _)) $$ [H5 H9 Hs]
  · isplitl [H5]; · iexact H5
    isplitl [H9]; · iexact H9
    iexact Hs
  iintro HF
  sl_step
  iapply Hk
  iapply (Transfers.Flight_mono (countersEmb (U := Pipeline.UD sig nD τ)) (c : Thread nD τ) (D' := iprop(((win arg9 k).view.loc (c : Thread nD τ) ↦[(win arg9 k).view.set]{fullShare} (harg9.unread (arg5.view.read (Elt F) f5)))
      ∗ ((win arg5 k).view.loc (c : Thread nD τ) ↦[(win arg5 k).view.set]{fullShare} f5))) ?_) $$ HF
  exact Entails.of_eq (congrArg (fun X => iprop(X ∗ ((win arg5 k).view.loc (c : Thread nD τ) ↦[(win arg5 k).view.set]{fullShare} f5)))
    (pointsTo_congr (win_landed c arg5 arg9 harg9 f5 f9 k)))

/-- Five starts in a row, as the kernel groups them. -/
def enq5P (arg5 : Memref sig .tc .hbm S180x960x128 .fp8e4m3) (harg5 : arg5.IsWhole) (arg9 : Memref sig .tc .vmem S180x960x128 .fp8e4m3)
    (harg9 : arg9.IsWhole) (arg10 : DmaSems sig S15) (a b d e g : Fin k0_t1_loop.trips) : Prog (TpuEff nD τ sig (Elt F) Λ₀ .tc) PUnit := do
  enqP arg5 harg5 arg9 harg9 arg10 a
  enqP arg5 harg5 arg9 harg9 arg10 b
  enqP arg5 harg5 arg9 harg9 arg10 d
  enqP arg5 harg5 arg9 harg9 arg10 e
  enqP arg5 harg5 arg9 harg9 arg10 g
  pure ⟨⟩

theorem enq5 (c : Dev nD) (arg5 : Memref sig .tc .hbm S180x960x128 .fp8e4m3) (harg5 : arg5.IsWhole) (arg9 : Memref sig .tc .vmem S180x960x128 .fp8e4m3)
    (harg9 : arg9.IsWhole) (arg10 : DmaSems sig S15) (f5 : Buf (Elt F) (arg5.view.loc (c : Thread nD τ))) (f9 : Buf (Elt F) (arg9.view.loc (c : Thread nD τ)))
    (a b d e g : Fin k0_t1_loop.trips) (K : PUnit → sProp 𝕄) :
    iprop(rest c arg5 arg9 arg10 f5 f9 a ∗ rest c arg5 arg9 arg10 f5 f9 b ∗ rest c arg5 arg9 arg10 f5 f9 d ∗ rest c arg5 arg9 arg10 f5 f9 e
      ∗ rest c arg5 arg9 arg10 f5 f9 g
      ∗ (fly c arg5 arg9 arg10 f5 (harg9.unread (arg5.view.read (Elt F) f5)) a -∗ fly c arg5 arg9 arg10 f5 (harg9.unread (arg5.view.read (Elt F) f5)) b
        -∗ fly c arg5 arg9 arg10 f5 (harg9.unread (arg5.view.read (Elt F) f5)) d -∗ fly c arg5 arg9 arg10 f5 (harg9.unread (arg5.view.read (Elt F) f5)) e
        -∗ fly c arg5 arg9 arg10 f5 (harg9.unread (arg5.view.read (Elt F) f5)) g -∗ K ⟨⟩))
      ⊢ wp frame (wpE (defs₀ (F := F)) Variants.none c none) Set.univ (enq5P arg5 harg5 arg9 harg9 arg10 a b d e g) K := by
  iintro ⟨Ha, Hb, Hd, He, Hg, Hk⟩
  unfold enq5P
  simp only [wp_bind]
  iapply enq
  isplitl [Ha]; · iexact Ha
  iintro Ha
  iapply enq
  isplitl [Hb]; · iexact Hb
  iintro Hb
  iapply enq
  isplitl [Hd]; · iexact Hd
  iintro Hd
  iapply enq
  isplitl [He]; · iexact He
  iintro He
  iapply enq
  isplitl [Hg]; · iexact Hg
  iintro Hg
  sl_step
  iapply Hk $$ Ha Hb Hd He Hg

set_option maxRecDepth 65536 in
theorem part26_eq (arg0 : Memref sig .tc .vmem S192x128 .fp8e4m3) (harg0 : arg0.IsWhole) (arg1 : Memref sig .tc .vmem S192x1 .f32) (harg1 : arg1.IsWhole) (arg2 : Memref sig .tc .vmem S180x960 .f32) (harg2 : arg2.IsWhole) (arg3 : Memref sig .tc .vmem S1x960 .i32) (harg3 : arg3.IsWhole) (arg4 : Memref sig .tc .vmem S6x1 .i32) (harg4 : arg4.IsWhole) (arg5 : Memref sig .tc .hbm S180x960x128 .fp8e4m3) (harg5 : arg5.IsWhole) (arg6 : Memref sig .tc .vmem S6x960 .f32) (harg6 : arg6.IsWhole) (arg7 : Memref sig .tc .vmem S6x1 .f32) (harg7 : arg7.IsWhole) (arg8 : Memref sig .tc .vmem S192x960 .f32) (harg8 : arg8.IsWhole) (arg9 : Memref sig .tc .vmem S180x960x128 .fp8e4m3) (harg9 : arg9.IsWhole) (arg10 : DmaSems sig S15) :
    k0_part26 (F := F) arg0 harg0 arg1 harg1 arg2 harg2 arg3 harg3 arg4 harg4 arg5 harg5 arg6 harg6 arg7 harg7 arg8 harg8 arg9 harg9 arg10 = enq5P arg5 harg5 arg9 harg9 arg10 (tr 0) (tr 1) (tr 2) (tr 3) (tr 4) := rfl

set_option maxRecDepth 65536 in
theorem part27_eq (arg0 : Memref sig .tc .vmem S192x128 .fp8e4m3) (harg0 : arg0.IsWhole) (arg1 : Memref sig .tc .vmem S192x1 .f32) (harg1 : arg1.IsWhole) (arg2 : Memref sig .tc .vmem S180x960 .f32) (harg2 : arg2.IsWhole) (arg3 : Memref sig .tc .vmem S1x960 .i32) (harg3 : arg3.IsWhole) (arg4 : Memref sig .tc .vmem S6x1 .i32) (harg4 : arg4.IsWhole) (arg5 : Memref sig .tc .hbm S180x960x128 .fp8e4m3) (harg5 : arg5.IsWhole) (arg6 : Memref sig .tc .vmem S6x960 .f32) (harg6 : arg6.IsWhole) (arg7 : Memref sig .tc .vmem S6x1 .f32) (harg7 : arg7.IsWhole) (arg8 : Memref sig .tc .vmem S192x960 .f32) (harg8 : arg8.IsWhole) (arg9 : Memref sig .tc .vmem S180x960x128 .fp8e4m3) (harg9 : arg9.IsWhole) (arg10 : DmaSems sig S15) :
    k0_part27 (F := F) arg0 harg0 arg1 harg1 arg2 harg2 arg3 harg3 arg4 harg4 arg5 harg5 arg6 harg6 arg7 harg7 arg8 harg8 arg9 harg9 arg10 = enq5P arg5 harg5 arg9 harg9 arg10 (tr 5) (tr 6) (tr 7) (tr 8) (tr 9) := rfl

set_option maxRecDepth 65536 in
theorem part28_eq (arg0 : Memref sig .tc .vmem S192x128 .fp8e4m3) (harg0 : arg0.IsWhole) (arg1 : Memref sig .tc .vmem S192x1 .f32) (harg1 : arg1.IsWhole) (arg2 : Memref sig .tc .vmem S180x960 .f32) (harg2 : arg2.IsWhole) (arg3 : Memref sig .tc .vmem S1x960 .i32) (harg3 : arg3.IsWhole) (arg4 : Memref sig .tc .vmem S6x1 .i32) (harg4 : arg4.IsWhole) (arg5 : Memref sig .tc .hbm S180x960x128 .fp8e4m3) (harg5 : arg5.IsWhole) (arg6 : Memref sig .tc .vmem S6x960 .f32) (harg6 : arg6.IsWhole) (arg7 : Memref sig .tc .vmem S6x1 .f32) (harg7 : arg7.IsWhole) (arg8 : Memref sig .tc .vmem S192x960 .f32) (harg8 : arg8.IsWhole) (arg9 : Memref sig .tc .vmem S180x960x128 .fp8e4m3) (harg9 : arg9.IsWhole) (arg10 : DmaSems sig S15) :
    k0_part28 (F := F) arg0 harg0 arg1 harg1 arg2 harg2 arg3 harg3 arg4 harg4 arg5 harg5 arg6 harg6 arg7 harg7 arg8 harg8 arg9 harg9 arg10 = enq5P arg5 harg5 arg9 harg9 arg10 (tr 10) (tr 11) (tr 12) (tr 13) (tr 14) := rfl

end Cert.KernelIdeal.Hand

end
-- ==== Proof.Kern.Trip.lean ====
module

public import proofs.«01_k».proof.Proof.Kern.Base

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

noncomputable def trip (c : Dev nD) (arg0 : Memref sig .tc .vmem S192x128 .fp8e4m3) (harg0 : arg0.IsWhole) (arg1 : Memref sig .tc .vmem S192x1 .f32) (harg1 : arg1.IsWhole) (arg2 : Memref sig .tc .vmem S180x960 .f32) (harg2 : arg2.IsWhole) (arg3 : Memref sig .tc .vmem S1x960 .i32) (harg3 : arg3.IsWhole) (arg4 : Memref sig .tc .vmem S6x1 .i32) (harg4 : arg4.IsWhole) (arg5 : Memref sig .tc .hbm S180x960x128 .fp8e4m3) (harg5 : arg5.IsWhole) (arg6 : Memref sig .tc .vmem S6x960 .f32) (harg6 : arg6.IsWhole) (arg7 : Memref sig .tc .vmem S6x1 .f32) (harg7 : arg7.IsWhole) (arg8 : Memref sig .tc .vmem S192x960 .f32) (harg8 : arg8.IsWhole) (arg9 : Memref sig .tc .vmem S180x960x128 .fp8e4m3) (harg9 : arg9.IsWhole) (arg10 : DmaSems sig S15) (v60 : Vec F S192x128 .fp8e4m3)
    (x2 : Vec F S180x960 .f32) (x3 : Vec F S1x960 .i32) (x9 : Vec F S180x960x128 .fp8e4m3) (f5 : Buf (Elt F) (arg5.view.loc (c : Thread nD τ)))
    (k : Fin k0_t1_loop.trips) (x8 : Vec F S192x960 .f32) :
    { L : List (View.Piece (Elt F) S192x960 .f32) //
      ∀ (W : Waits sig Unit) (K : PUnit → sProp 𝕄),
      iprop((arg8.view.loc (c : Thread nD τ) ↦[arg8.view.set]{fullShare} harg8.unread x8)
        ∗ (arg2.view.loc (c : Thread nD τ) ↦[arg2.view.set]{fullShare} harg2.unread x2)
        ∗ (arg3.view.loc (c : Thread nD τ) ↦[arg3.view.set]{fullShare} harg3.unread x3)
        ∗ fly c arg5 arg9 arg10 f5 (harg9.unread x9) k
        ∗ owes (c : Thread nD τ) 0 W
        ∗ (iprop((arg8.view.loc (c : Thread nD τ) ↦[arg8.view.set]{fullShare} arg8.view.writes (Elt F) (harg8.unread x8) L)
            ∗ (arg2.view.loc (c : Thread nD τ) ↦[arg2.view.set]{fullShare} harg2.unread x2)
            ∗ (arg3.view.loc (c : Thread nD τ) ↦[arg3.view.set]{fullShare} harg3.unread x3)
            ∗ ((win arg9 k).view.loc (c : Thread nD τ) ↦[(win arg9 k).view.set]{fullShare} harg9.unread x9)
            ∗ ((win arg5 k).view.loc (c : Thread nD τ) ↦[(win arg5 k).view.set]{fullShare} f5)
            ∗ semVal ((c : Thread nD τ), (SemLoc.dma (cell arg10 k).sem)) 0
            ∗ ∃ W', owes (c : Thread nD τ) 0 W') -∗ K ⟨⟩))
        ⊢ wp frame (wpE (defs₀ (F := F)) Variants.none c none) Set.univ
            (k0_t1_body arg0 harg0 arg1 harg1 arg2 harg2 arg3 harg3 arg4 harg4 arg5 harg5 arg6 harg6 arg7 harg7 arg8 harg8 arg9 harg9 arg10 v60 k ⟨⟩) K } := by
  refine ⟨?_, fun W K => ?run⟩
  case run =>
    iintro ⟨H8, H2, H3, HF, HW, Hk⟩
    unfold k0_t1_body
    sl_exec (disch := exact View.amount_pos _ _ (show 0 < S12x960x128.numel by decide))
    sl_step
    iapply Hk
    isplitl [H8]; · iexact H8
    isplitl [H2]; · iexact H2
    isplitl [H3]; · iexact H3
    isplitl [HF_dst]; · iexact HF_dst
    isplitl [HF_src]; · iexact HF_src
    isplitl [HF]; · iexact HF
    iexists _; iexact HW

end Cert.KernelIdeal.Hand

end
-- ==== Proof.Kern.Loop.lean ====
module

public import proofs.«01_k».proof.Proof.Kern.Start
public import proofs.«01_k».proof.Proof.Kern.Trip

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The running maximum after `n` trips, in the spelling of the trips' own stores. -/
def T (c : Dev nD) (arg0 : Memref sig .tc .vmem S192x128 .fp8e4m3) (harg0 : arg0.IsWhole) (arg1 : Memref sig .tc .vmem S192x1 .f32) (harg1 : arg1.IsWhole) (arg2 : Memref sig .tc .vmem S180x960 .f32) (harg2 : arg2.IsWhole) (arg3 : Memref sig .tc .vmem S1x960 .i32) (harg3 : arg3.IsWhole) (arg4 : Memref sig .tc .vmem S6x1 .i32) (harg4 : arg4.IsWhole) (arg5 : Memref sig .tc .hbm S180x960x128 .fp8e4m3) (harg5 : arg5.IsWhole) (arg6 : Memref sig .tc .vmem S6x960 .f32) (harg6 : arg6.IsWhole) (arg7 : Memref sig .tc .vmem S6x1 .f32) (harg7 : arg7.IsWhole) (arg8 : Memref sig .tc .vmem S192x960 .f32) (harg8 : arg8.IsWhole) (arg9 : Memref sig .tc .vmem S180x960x128 .fp8e4m3) (harg9 : arg9.IsWhole) (arg10 : DmaSems sig S15) (v60 : Vec F S192x128 .fp8e4m3)
    (x2 : Vec F S180x960 .f32) (x3 : Vec F S1x960 .i32) (x9 : Vec F S180x960x128 .fp8e4m3) (f5 : Buf (Elt F) (arg5.view.loc (c : Thread nD τ))) :
    ℕ → Vec F S192x960 .f32
  | 0 => k0_pay110 (F := F)
  | n + 1 => if h : n < k0_t1_loop.trips then
      arg8.view.read (Elt F) (arg8.view.writes (Elt F) (harg8.unread (T c arg0 harg0 arg1 harg1 arg2 harg2 arg3 harg3 arg4 harg4 arg5 harg5 arg6 harg6 arg7 harg7 arg8 harg8 arg9 harg9 arg10 v60 x2 x3 x9 f5 n)) (trip c arg0 harg0 arg1 harg1 arg2 harg2 arg3 harg3 arg4 harg4 arg5 harg5 arg6 harg6 arg7 harg7 arg8 harg8 arg9 harg9 arg10 v60 x2 x3 x9 f5 ⟨n, h⟩ (T c arg0 harg0 arg1 harg1 arg2 harg2 arg3 harg3 arg4 harg4 arg5 harg5 arg6 harg6 arg7 harg7 arg8 harg8 arg9 harg9 arg10 v60 x2 x3 x9 f5 n)).1)
    else T c arg0 harg0 arg1 harg1 arg2 harg2 arg3 harg3 arg4 harg4 arg5 harg5 arg6 harg6 arg7 harg7 arg8 harg8 arg9 harg9 arg10 v60 x2 x3 x9 f5 n

/-- Window `j`'s transfer over: both windows back and the cell at zero. -/
abbrev landed (c : Dev nD) (arg5 : Memref sig .tc .hbm S180x960x128 .fp8e4m3) (arg9 : Memref sig .tc .vmem S180x960x128 .fp8e4m3)
    (arg10 : DmaSems sig S15) (f5 : Buf (Elt F) (arg5.view.loc (c : Thread nD τ))) (f9 : Buf (Elt F) (arg9.view.loc (c : Thread nD τ)))
    (k : Fin k0_t1_loop.trips) : sProp 𝕄 :=
  rest c arg5 arg9 arg10 f5 f9 k

/-- Window `j` before trip `k`: over if an earlier trip waited for it, in flight otherwise. -/
def stage (c : Dev nD) (arg5 : Memref sig .tc .hbm S180x960x128 .fp8e4m3) (arg9 : Memref sig .tc .vmem S180x960x128 .fp8e4m3)
    (arg10 : DmaSems sig S15) (f5 : Buf (Elt F) (arg5.view.loc (c : Thread nD τ))) (f9 : Buf (Elt F) (arg9.view.loc (c : Thread nD τ)))
    (k : ℕ) (j : Fin k0_t1_loop.trips) : sProp 𝕄 :=
  if j.val < k then landed c arg5 arg9 arg10 f5 f9 j else fly c arg5 arg9 arg10 f5 f9 j

/-- The loop's invariant before trip `k`. -/
def inv (c : Dev nD) (arg0 : Memref sig .tc .vmem S192x128 .fp8e4m3) (harg0 : arg0.IsWhole) (arg1 : Memref sig .tc .vmem S192x1 .f32) (harg1 : arg1.IsWhole) (arg2 : Memref sig .tc .vmem S180x960 .f32) (harg2 : arg2.IsWhole) (arg3 : Memref sig .tc .vmem S1x960 .i32) (harg3 : arg3.IsWhole) (arg4 : Memref sig .tc .vmem S6x1 .i32) (harg4 : arg4.IsWhole) (arg5 : Memref sig .tc .hbm S180x960x128 .fp8e4m3) (harg5 : arg5.IsWhole) (arg6 : Memref sig .tc .vmem S6x960 .f32) (harg6 : arg6.IsWhole) (arg7 : Memref sig .tc .vmem S6x1 .f32) (harg7 : arg7.IsWhole) (arg8 : Memref sig .tc .vmem S192x960 .f32) (harg8 : arg8.IsWhole) (arg9 : Memref sig .tc .vmem S180x960x128 .fp8e4m3) (harg9 : arg9.IsWhole) (arg10 : DmaSems sig S15) (v60 : Vec F S192x128 .fp8e4m3)
    (x2 : Vec F S180x960 .f32) (x3 : Vec F S1x960 .i32) (x9 : Vec F S180x960x128 .fp8e4m3) (f5 : Buf (Elt F) (arg5.view.loc (c : Thread nD τ)))
    (k : ℕ) (_ : PUnit) : sProp 𝕄 :=
  iprop((arg8.view.loc (c : Thread nD τ) ↦[arg8.view.set]{fullShare} harg8.unread (T c arg0 harg0 arg1 harg1 arg2 harg2 arg3 harg3 arg4 harg4 arg5 harg5 arg6 harg6 arg7 harg7 arg8 harg8 arg9 harg9 arg10 v60 x2 x3 x9 f5 k))
    ∗ (arg2.view.loc (c : Thread nD τ) ↦[arg2.view.set]{fullShare} harg2.unread x2)
    ∗ (arg3.view.loc (c : Thread nD τ) ↦[arg3.view.set]{fullShare} harg3.unread x3)
    ∗ bigSep Finset.univ (stage c arg5 arg9 arg10 f5 (harg9.unread x9) k)
    ∗ ∃ W, owes (c : Thread nD τ) 0 W)

/-- One trip keeps the invariant. -/
theorem inv_step (c : Dev nD) (arg0 : Memref sig .tc .vmem S192x128 .fp8e4m3) (harg0 : arg0.IsWhole) (arg1 : Memref sig .tc .vmem S192x1 .f32) (harg1 : arg1.IsWhole) (arg2 : Memref sig .tc .vmem S180x960 .f32) (harg2 : arg2.IsWhole) (arg3 : Memref sig .tc .vmem S1x960 .i32) (harg3 : arg3.IsWhole) (arg4 : Memref sig .tc .vmem S6x1 .i32) (harg4 : arg4.IsWhole) (arg5 : Memref sig .tc .hbm S180x960x128 .fp8e4m3) (harg5 : arg5.IsWhole) (arg6 : Memref sig .tc .vmem S6x960 .f32) (harg6 : arg6.IsWhole) (arg7 : Memref sig .tc .vmem S6x1 .f32) (harg7 : arg7.IsWhole) (arg8 : Memref sig .tc .vmem S192x960 .f32) (harg8 : arg8.IsWhole) (arg9 : Memref sig .tc .vmem S180x960x128 .fp8e4m3) (harg9 : arg9.IsWhole) (arg10 : DmaSems sig S15) (v60 : Vec F S192x128 .fp8e4m3)
    (x2 : Vec F S180x960 .f32) (x3 : Vec F S1x960 .i32) (x9 : Vec F S180x960x128 .fp8e4m3) (f5 : Buf (Elt F) (arg5.view.loc (c : Thread nD τ)))
    (k : Fin k0_t1_loop.trips) :
    inv c arg0 harg0 arg1 harg1 arg2 harg2 arg3 harg3 arg4 harg4 arg5 harg5 arg6 harg6 arg7 harg7 arg8 harg8 arg9 harg9 arg10 v60 x2 x3 x9 f5 k.val ⟨⟩
      ⊢ wp frame (wpE (defs₀ (F := F)) Variants.none c none) Set.univ (k0_t1_body arg0 harg0 arg1 harg1 arg2 harg2 arg3 harg3 arg4 harg4 arg5 harg5 arg6 harg6 arg7 harg7 arg8 harg8 arg9 harg9 arg10 v60 k ⟨⟩)
          (inv c arg0 harg0 arg1 harg1 arg2 harg2 arg3 harg3 arg4 harg4 arg5 harg5 arg6 harg6 arg7 harg7 arg8 harg8 arg9 harg9 arg10 v60 x2 x3 x9 f5 (k.val + 1)) := by
  unfold inv
  iintro ⟨H8, H2, H3, HS, %W, HW⟩
  ihave HS' := (bigSep_univ_update (Φ := stage c arg5 arg9 arg10 f5 (harg9.unread x9) k.val)
    (Ψ := stage c arg5 arg9 arg10 f5 (harg9.unread x9) (k.val + 1)) k (fun j hj => by
      have : j.val ≠ k.val := fun e => hj (Fin.ext e)
      unfold stage
      by_cases h : j.val < k.val
      · rw [if_pos h, if_pos (by omega)]
      · rw [if_neg h, if_neg (by omega)])) $$ HS
  icases HS' with ⟨HF, Hback⟩
  iapply ((trip c arg0 harg0 arg1 harg1 arg2 harg2 arg3 harg3 arg4 harg4 arg5 harg5 arg6 harg6 arg7 harg7 arg8 harg8 arg9 harg9 arg10 v60 x2 x3 x9 f5 k _).2 W _)
  isplitl [H8]; · iexact H8
  isplitl [H2]; · iexact H2
  isplitl [H3]; · iexact H3
  isplitl [HF]
  · iapply (Entails.of_eq (show stage c arg5 arg9 arg10 f5 (harg9.unread x9) k.val k = fly c arg5 arg9 arg10 f5 (harg9.unread x9) k by
      unfold stage; rw [if_neg (Nat.lt_irrefl _)]))
    iexact HF
  isplitl [HW]; · iexact HW
  iintro ⟨H8, H2, H3, Hd, Hs, Hv, HW⟩
  isplitl [H8]
  · iapply (Entails.of_eq (congrArg (fun f => (arg8.view.loc (c : Thread nD τ) ↦[arg8.view.set]{fullShare} f : sProp 𝕄))
      (harg8.eq_unread (X := T c arg0 harg0 arg1 harg1 arg2 harg2 arg3 harg3 arg4 harg4 arg5 harg5 arg6 harg6 arg7 harg7 arg8 harg8 arg9 harg9 arg10 v60 x2 x3 x9 f5 (k.val + 1)) (by rw [T, dif_pos k.isLt]))))
    iexact H8
  isplitl [H2]; · iexact H2
  isplitl [H3]; · iexact H3
  isplitl [Hback Hd Hs Hv]
  · iapply Hback
    iapply (Entails.of_eq (show landed c arg5 arg9 arg10 f5 (harg9.unread x9) k = stage c arg5 arg9 arg10 f5 (harg9.unread x9) (k.val + 1) k by
      unfold stage; rw [if_pos (Nat.lt_succ_self _)]))
    isplitl [Hs]; · iexact Hs
    isplitl [Hd]; · iexact Hd
    iexact Hv
  iexact HW

end Cert.KernelIdeal.Hand

end
-- ==== Proof.Kern.Body.lean ====
module

public import proofs.«01_k».proof.Proof.Kern.Loop

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The fifteen windows, listed. -/
theorem univ_list (Φ : Fin k0_t1_loop.trips → sProp 𝕄) :
    bigSep Finset.univ Φ = iprop(Φ (tr 0) ∗ Φ (tr 1) ∗ Φ (tr 2) ∗ Φ (tr 3) ∗ Φ (tr 4) ∗ Φ (tr 5) ∗ Φ (tr 6) ∗ Φ (tr 7) ∗ Φ (tr 8) ∗ Φ (tr 9) ∗ Φ (tr 10) ∗ Φ (tr 11) ∗ Φ (tr 12) ∗ Φ (tr 13) ∗ Φ (tr 14)) :=
  BI.bigSep_eq_bigSepL_of_eq [tr 0, tr 1, tr 2, tr 3, tr 4, tr 5, tr 6, tr 7, tr 8, tr 9, tr 10, tr 11, tr 12, tr 13, tr 14] (by decide) (by decide) Φ

/-- The two document-code buffers and the cells are the windows at rest. -/
theorem rest_all (c : Dev nD) (arg5 : Memref sig .tc .hbm S180x960x128 .fp8e4m3) (harg5 : arg5.IsWhole) (arg9 : Memref sig .tc .vmem S180x960x128 .fp8e4m3)
    (harg9 : arg9.IsWhole) (arg10 : DmaSems sig S15) (f5 : Buf (Elt F) (arg5.view.loc (c : Thread nD τ))) (f9 : Buf (Elt F) (arg9.view.loc (c : Thread nD τ))) :
    (iprop((arg5.view.loc (c : Thread nD τ) ↦{fullShare} f5) ∗ (arg9.view.loc (c : Thread nD τ) ↦{fullShare} f9)
      ∗ bigSep Finset.univ fun k => semVal ((c : Thread nD τ), (SemLoc.dma (cell arg10 k).sem)) 0) : sProp 𝕄)
      = bigSep Finset.univ (rest c arg5 arg9 arg10 f5 f9) := by
  rw [win_split c arg5 harg5 f5, win_split c arg9 harg9 f9, ← bigSep_sep', ← bigSep_sep']
  refine bigSep_congr fun k _ => ?_
  rw [← win_set, ← win_set]

/-- Before the first trip every window is in flight, -/
theorem stage_zero (c : Dev nD) (arg5 : Memref sig .tc .hbm S180x960x128 .fp8e4m3) (arg9 : Memref sig .tc .vmem S180x960x128 .fp8e4m3)
    (arg10 : DmaSems sig S15) (f5 : Buf (Elt F) (arg5.view.loc (c : Thread nD τ))) (f9 : Buf (Elt F) (arg9.view.loc (c : Thread nD τ))) :
    stage c arg5 arg9 arg10 f5 f9 0 = fly c arg5 arg9 arg10 f5 f9 :=
  funext fun k => by unfold stage; rw [if_neg (Nat.not_lt_zero _)]

/-- and after the last none is. -/
theorem stage_last (c : Dev nD) (arg5 : Memref sig .tc .hbm S180x960x128 .fp8e4m3) (arg9 : Memref sig .tc .vmem S180x960x128 .fp8e4m3)
    (arg10 : DmaSems sig S15) (f5 : Buf (Elt F) (arg5.view.loc (c : Thread nD τ))) (f9 : Buf (Elt F) (arg9.view.loc (c : Thread nD τ))) :
    stage c arg5 arg9 arg10 f5 f9 k0_t1_loop.trips = rest c arg5 arg9 arg10 f5 f9 :=
  funext fun k => by unfold stage; rw [if_pos k.isLt]

/-- A load of the whole vector reads it. -/
theorem ld_zero {s : Shape} {e : EltTy} (off : Fin s.rank → ℕ) (inb : ∀ a, off a + s.size a ≤ s.size a) (h : off = fun _ => 0) (x : s.Idx → Elt F e) :
    View.ld x (Rect.unit off s.size inb) = x := by
  subst h
  exact funext fun y => congrArg x (Rect.emb_whole_apply _ y)

/-- A store over the whole buffer leaves its payload. -/
theorem read_write_zero {sp : Space} {s : Shape} {e : EltTy} (v : View sig .tc sp s e) (f : v.ty.Contents (Elt F)) (off : Fin s.rank → ℕ)
    (inb : ∀ a, off a + s.size a ≤ s.size a) (h : off = fun _ => 0) (x : s.Idx → Elt F e) (L : List (View.Piece (Elt F) s e)) :
    v.read (Elt F) (v.writes (Elt F) f (⟨Rect.unit off s.size inb, x⟩ :: L)) = x := by
  subst h
  funext y
  have h := View.read_writes_cons_emb v f (Rect.whole s) x L y
  rwa [Rect.emb_whole_apply] at h

theorem z2 : (![0, 0] : Fin 2 → ℕ) = fun _ => 0 := by decide

/-- The running maximum after the last trip. -/
abbrev TT (c : Dev nD) (arg0 : Memref sig .tc .vmem S192x128 .fp8e4m3) (harg0 : arg0.IsWhole) (arg1 : Memref sig .tc .vmem S192x1 .f32) (harg1 : arg1.IsWhole) (arg2 : Memref sig .tc .vmem S180x960 .f32) (harg2 : arg2.IsWhole) (arg3 : Memref sig .tc .vmem S1x960 .i32) (harg3 : arg3.IsWhole) (arg4 : Memref sig .tc .vmem S6x1 .i32) (harg4 : arg4.IsWhole) (arg5 : Memref sig .tc .hbm S180x960x128 .fp8e4m3) (harg5 : arg5.IsWhole) (arg6 : Memref sig .tc .vmem S6x960 .f32) (harg6 : arg6.IsWhole) (arg7 : Memref sig .tc .vmem S6x1 .f32) (harg7 : arg7.IsWhole) (arg8 : Memref sig .tc .vmem S192x960 .f32) (harg8 : arg8.IsWhole) (arg9 : Memref sig .tc .vmem S180x960x128 .fp8e4m3) (harg9 : arg9.IsWhole) (arg10 : DmaSems sig S15) (x0 : Vec F S192x128 .fp8e4m3)
    (x2 : Vec F S180x960 .f32) (x3 : Vec F S1x960 .i32) (f5 : Buf (Elt F) (arg5.view.loc (c : Thread nD τ))) : Vec F S192x960 .f32 :=
  T c arg0 harg0 arg1 harg1 arg2 harg2 arg3 harg3 arg4 harg4 arg5 harg5 arg6 harg6 arg7 harg7 arg8 harg8 arg9 harg9 arg10 x0 x2 x3 (arg5.view.read (Elt F) f5) f5 k0_t1_loop.trips

/-- The loss the body stores, from the running maximum. -/
abbrev lossOf (t : Vec F S192x960 .f32) (x1 : Vec F S192x1 .f32) (x4 : Vec F S6x1 .i32) : Vec F S6x1 .f32 :=
  k0_pay1 (k0_pay113 t x1) (k0_pay114 t x1) (iota .tc S6x960 32 [1] iota_S6x960_d1_w32) x4

theorem body_run (c : Dev nD) (arg0 : Memref sig .tc .vmem S192x128 .fp8e4m3) (harg0 : arg0.IsWhole) (arg1 : Memref sig .tc .vmem S192x1 .f32) (harg1 : arg1.IsWhole) (arg2 : Memref sig .tc .vmem S180x960 .f32) (harg2 : arg2.IsWhole) (arg3 : Memref sig .tc .vmem S1x960 .i32) (harg3 : arg3.IsWhole) (arg4 : Memref sig .tc .vmem S6x1 .i32) (harg4 : arg4.IsWhole) (arg5 : Memref sig .tc .hbm S180x960x128 .fp8e4m3) (harg5 : arg5.IsWhole) (arg6 : Memref sig .tc .vmem S6x960 .f32) (harg6 : arg6.IsWhole) (arg7 : Memref sig .tc .vmem S6x1 .f32) (harg7 : arg7.IsWhole) (arg8 : Memref sig .tc .vmem S192x960 .f32) (harg8 : arg8.IsWhole) (arg9 : Memref sig .tc .vmem S180x960x128 .fp8e4m3) (harg9 : arg9.IsWhole) (arg10 : DmaSems sig S15)
    (x0 : Vec F S192x128 .fp8e4m3) (x1 : Vec F S192x1 .f32) (x2 : Vec F S180x960 .f32) (x3 : Vec F S1x960 .i32) (x4 : Vec F S6x1 .i32)
    (f5 : Buf (Elt F) (arg5.view.loc (c : Thread nD τ))) (W : Waits sig Unit) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4
        ∗ (arg5.view.loc (c : Thread nD τ) ↦{fullShare} f5)
        ∗ (∃ d, owns (c : Thread nD τ) arg6 fullShare d) ∗ (∃ d, owns (c : Thread nD τ) arg7 fullShare d) ∗ (∃ d, owns (c : Thread nD τ) arg8 fullShare d)
        ∗ (∃ f, arg9.view.loc (c : Thread nD τ) ↦{fullShare} f)
        ∗ (bigSep Finset.univ fun k => semVal ((c : Thread nD τ), (SemLoc.dma (cell arg10 k).sem)) 0)
        ∗ owes (c : Thread nD τ) 0 W
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ (arg5.view.loc (c : Thread nD τ) ↦{fullShare} f5)
            ∗ owns (c : Thread nD τ) arg6 fullShare (k0_pay113 (TT c arg0 harg0 arg1 harg1 arg2 harg2 arg3 harg3 arg4 harg4 arg5 harg5 arg6 harg6 arg7 harg7 arg8 harg8 arg9 harg9 arg10 x0 x2 x3 f5) x1)
            ∗ owns (c : Thread nD τ) arg7 fullShare (lossOf (TT c arg0 harg0 arg1 harg1 arg2 harg2 arg3 harg3 arg4 harg4 arg5 harg5 arg6 harg6 arg7 harg7 arg8 harg8 arg9 harg9 arg10 x0 x2 x3 f5) x1 x4)
            ∗ owns (c : Thread nD τ) arg8 fullShare (k0_pay112 (TT c arg0 harg0 arg1 harg1 arg2 harg2 arg3 harg3 arg4 harg4 arg5 harg5 arg6 harg6 arg7 harg7 arg8 harg8 arg9 harg9 arg10 x0 x2 x3 f5) x1)
            ∗ (∃ f, arg9.view.loc (c : Thread nD τ) ↦{fullShare} f)
            ∗ (bigSep Finset.univ fun k => semVal ((c : Thread nD τ), (SemLoc.dma (cell arg10 k).sem)) 0)
            ∗ ∃ W', owes (c : Thread nD τ) 0 W') -∗ K ⟨⟩))
      ⊢ wp frame (wpE (defs₀ (F := F)) Variants.none c none) Set.univ (cc0_maxsim arg0 harg0 arg1 harg1 arg2 harg2 arg3 harg3 arg4 harg4 arg5 harg5 arg6 harg6 arg7 harg7 arg8 harg8 arg9 harg9 arg10) K := by
  simp only [cc0_maxsim_eq_skeleton]; unfold cc0_maxsim_skel
  simp only [part26_eq, part27_eq, part28_eq]
  unfold owns
  iintro ⟨⟨%f0, %hf0, H0⟩, ⟨%f1, %hf1, H1⟩, ⟨%f2, %hf2, H2⟩, ⟨%f3, %hf3, H3⟩, ⟨%f4, %hf4, H4⟩, H5, ⟨%d6, %f6, -, H6⟩, ⟨%d7, %f7, -, H7⟩, ⟨%d8, %f8, -, H8⟩,
    ⟨%f9, H9⟩, HS, HW, Hk⟩
  obtain rfl := harg0.eq_unread hf0
  obtain rfl := harg1.eq_unread hf1
  obtain rfl := harg2.eq_unread hf2
  obtain rfl := harg3.eq_unread hf3
  obtain rfl := harg4.eq_unread hf4
  -- the two document-code buffers as their windows, each beside its cell
  ihave HR := (Entails.of_eq ((rest_all (F := F) c arg5 harg5 arg9 harg9 arg10 f5 f9).trans (univ_list _))) $$ [H5 H9 HS]
  · isplitl [H5]; · iexact H5
    isplitl [H9]; · iexact H9
    iexact HS
  icases HR with ⟨R0, R1, R2, R3, R4, R5, R6, R7, R8, R9, R10, R11, R12, R13, R14⟩
  simp only [wp_bind]
  iapply enq5
  isplitl [R0]; · iexact R0
  isplitl [R1]; · iexact R1
  isplitl [R2]; · iexact R2
  isplitl [R3]; · iexact R3
  isplitl [R4]; · iexact R4
  iintro R0 R1 R2 R3 R4
  iapply enq5
  isplitl [R5]; · iexact R5
  isplitl [R6]; · iexact R6
  isplitl [R7]; · iexact R7
  isplitl [R8]; · iexact R8
  isplitl [R9]; · iexact R9
  iintro R5 R6 R7 R8 R9
  iapply enq5
  isplitl [R10]; · iexact R10
  isplitl [R11]; · iexact R11
  isplitl [R12]; · iexact R12
  isplitl [R13]; · iexact R13
  isplitl [R14]; · iexact R14
  iintro R10 R11 R12 R13 R14
  -- all fifteen in flight: the windows before the first trip
  ihave HS := (Entails.of_eq (univ_list (F := F) (fly c arg5 arg9 arg10 f5 (harg9.unread (arg5.view.read (Elt F) f5)))).symm) $$ [R0 R1 R2 R3 R4 R5 R6 R7 R8 R9 R10 R11 R12 R13 R14]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    iexact R14
  simp only [← wp_bind]
  sl_exec
  rw [show (View.readAt (Elt F) arg0.view (Rect.unit ![0, 0] S192x128.size inb_S192x128_S192x128_0_0).toLoadRect (harg0.unread x0)) = x0 from
    (congrArg (fun x => View.ld x _) (harg0.read_unread x0)).trans (ld_zero _ _ z2 x0)]
  sl_for (inv c arg0 harg0 arg1 harg1 arg2 harg2 arg3 harg3 arg4 harg4 arg5 harg5 arg6 harg6 arg7 harg7 arg8 harg8 arg9 harg9 arg10 x0 x2 x3 (arg5.view.read (Elt F) f5) f5) $$ [H8 H2 H3 HS HW]
  case region =>
    intro k _
    exact inv_step c arg0 harg0 arg1 harg1 arg2 harg2 arg3 harg3 arg4 harg4 arg5 harg5 arg6 harg6 arg7 harg7 arg8 harg8 arg9 harg9 arg10 x0 x2 x3 (arg5.view.read (Elt F) f5) f5 k
  · unfold inv
    isplitl [H8]
    · have e := harg8.eq_unread (X := T c arg0 harg0 arg1 harg1 arg2 harg2 arg3 harg3 arg4 harg4 arg5 harg5 arg6 harg6 arg7 harg7 arg8 harg8 arg9 harg9 arg10 x0 x2 x3 (arg5.view.read (Elt F) f5) f5 0)
        (read_write_zero arg8.view (arg8.view.junk (Val := Elt F)) ![0, 0] inb_S192x960_S192x960_0_0 z2 _ [])
      iapply (Entails.of_eq (congrArg (fun f => (arg8.view.loc (c : Thread nD τ) ↦[arg8.view.set]{fullShare} f : sProp 𝕄)) e))
      iexact H8
    isplitl [H2]; · iexact H2
    isplitl [H3]; · iexact H3
    isplitl [HS]
    · iapply (Entails.of_eq (congrArg (bigSep Finset.univ) (stage_zero c arg5 arg9 arg10 f5 (harg9.unread (arg5.view.read (Elt F) f5))).symm))
      iexact HS
    iexists W; iexact HW
  unfold inv
  iintro %_ ⟨H8, H2, H3, HS, %W', HW⟩
  sl_exec
  sl_step
  have e1 : (View.readAt (Elt F) arg1.view (Rect.unit ![0, 0] S192x1.size inb_S192x1_S192x1_0_0).toLoadRect (harg1.unread x1)) = x1 :=
    (congrArg (fun x => View.ld x _) (harg1.read_unread x1)).trans (ld_zero _ _ z2 x1)
  have e4 : (View.readAt (Elt F) arg4.view (Rect.unit ![0, 0] ![6, 1] inb_S6x1_S6x1_0_0).toLoadRect (harg4.unread x4)) = x4 :=
    (congrArg (fun x => View.ld x _) (harg4.read_unread x4)).trans (ld_zero _ _ z2 x4)
  have e8 : (View.readAt (Elt F) arg8.view (Rect.unit ![0, 0] S192x960.size inb_S192x960_S192x960_0_0).toLoadRect (harg8.unread (TT c arg0 harg0 arg1 harg1 arg2 harg2 arg3 harg3 arg4 harg4 arg5 harg5 arg6 harg6 arg7 harg7 arg8 harg8 arg9 harg9 arg10 x0 x2 x3 f5))) = TT c arg0 harg0 arg1 harg1 arg2 harg2 arg3 harg3 arg4 harg4 arg5 harg5 arg6 harg6 arg7 harg7 arg8 harg8 arg9 harg9 arg10 x0 x2 x3 f5 :=
    (congrArg (fun x => View.ld x _) (harg8.read_unread _)).trans (ld_zero _ _ z2 _)
  ihave HR := (Entails.of_eq ((congrArg (bigSep Finset.univ) (stage_last c arg5 arg9 arg10 f5 (harg9.unread (arg5.view.read (Elt F) f5)))).trans
    (rest_all c arg5 harg5 arg9 harg9 arg10 f5 (harg9.unread (arg5.view.read (Elt F) f5))).symm)) $$ [HS]
  · iexact HS
  icases HR with ⟨H5, H9, HSem⟩
  iapply Hk
  isplitl [H0]
  · iexists (harg0.unread x0); isplitr
    · ipureintro; exact hf0
    · iexact H0
  isplitl [H1]
  · iexists (harg1.unread x1); isplitr
    · ipureintro; exact hf1
    · iexact H1
  isplitl [H2]
  · iexists (harg2.unread x2); isplitr
    · ipureintro; exact hf2
    · iexact H2
  isplitl [H3]
  · iexists (harg3.unread x3); isplitr
    · ipureintro; exact hf3
    · iexact H3
  isplitl [H4]
  · iexists (harg4.unread x4); isplitr
    · ipureintro; exact hf4
    · iexact H4
  isplitl [H5]; · iexact H5
  isplitl [H6]
  · iexists _; isplitr
    rotate_left
    · iexact H6
    · ipureintro
      refine (read_write_zero arg6.view f6 ![0, 0] inb_S6x960_S6x960_0_0 z2 _ []).trans ?_
      exact congrArg₂ k0_pay113 e8 e1
  isplitl [H7]
  · iexists _; isplitr
    rotate_left
    · iexact H7
    · ipureintro
      refine (read_write_zero arg7.view f7 ![0, 0] inb_S6x1_S6x1_0_0 z2 _ []).trans ?_
      exact congr (congrArg₂ lossOf e8 e1) e4
  isplitl [H8]
  · iexists _; isplitr
    rotate_left
    · iexact H8
    · ipureintro
      refine (read_write_zero arg8.view _ ![0, 0] inb_S192x960_S192x960_0_0 z2 _ []).trans ?_
      exact congrArg₂ k0_pay112 e8 e1
  isplitl [H9]
  · iexists _; iexact H9
  isplitl [HSem]; · iexact HSem
  iexists W'; iexact HW

end Cert.KernelIdeal.Hand

end
-- ==== Proof.Kern.Frame.lean ====
module

public import proofs.«01_k».proof.Proof.Kern.Body
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch's facts -/

/-- The host lines around the region, at this proof's user algebra. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The fifteen transfer cells of the body. -/
abbrev osem0 : Fin k0_t1_loop.trips → SemLoc sig := fun k => SemLoc.dma (cell cc0_scratch1 k).sem

theorem ownSemFacts0 : Pipeline.OwnSemFacts spec0 osem0 := by decide

/-- The operand left in HBM that the body's transfers read. -/
def H0 : Finset (Ref sig .tc) := {main_v2}
theorem H0_sub : H0 ⊆ Pipeline.restRefs sig spec0 := by decide

/-- The host lines after the region do not touch the operand left in HBM. -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) ?_
  intro b hb
  simp only [H0, Finset.mem_singleton] at hb
  subst hb
  simp only [hostOps1, List.mem_cons, List.mem_nil_iff, or_false] at hop
  rcases hop with rfl | rfl | rfl
  all_goals
    simp only [StableHlo.unary_bufs, StableHlo.reshape_bufs, Finset.mem_insert, Finset.mem_singleton, not_or]
    exact ⟨StableHlo.devRef_ne_of_ne (by decide), StableHlo.devRef_ne_of_ne (by decide)⟩

/-- What the body owns between points besides its windows: the scratch, the generator's register, the cells at zero, the documents' codes. -/
theorem Phi_eq (c : Dev nD) :
    (Pipeline.ΦD osem0 spec0 H0 (V m) c : sProp 𝕄)
      = iprop((∃ f : Buf (Elt F) ((c : Thread nD τ).loc cc0_scratch0), ((c : Thread nD τ).loc cc0_scratch0) ↦{fullShare} f)
          ∗ (∃ r, prngReg c r)
          ∗ (bigSep Finset.univ fun k => semVal ((c : Thread nD τ), (SemLoc.dma (cell cc0_scratch1 k).sem)) 0)
          ∗ (((c : Thread nD τ).loc main_v2) ↦{fullShare} V m c main_v2)) := by
  rw [Pipeline.ΦD_eq, scopedRest0_eq]
  have h : (bigSep H0 (fun b => ((c : Thread nD τ).loc b) ↦{fullShare} V m c b) : sProp 𝕄) = (((c : Thread nD τ).loc main_v2) ↦{fullShare} V m c main_v2) := by
    rw [BI.bigSep_eq_bigSepL_of_eq [main_v2] (by decide) (by decide)]; rfl
  rw [h]; rfl

/-! ## The proof data -/

/-- The running maximum after the last trip, at the launch's operands. -/
abbrev TTat (c : Dev nD) (t : Fin cfg0.N) : Vec F S192x960 .f32 :=
  TT c (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (Memref.whole main_v2) (Memref.isWhole_whole _) (win0_5.stage (cfg0.slots t 5)) (hstage0_5 0) (win0_6.stage (cfg0.slots t 6)) (hstage0_6 0) (win0_7.stage (cfg0.slots t 7)) (hstage0_7 0) (Memref.whole cc0_scratch0) (Memref.isWhole_whole _) cc0_scratch1 (iblk m c 0 t) (iblk m c 2 t) (iblk m c 3 t) (V m c main_v2)

/-- The proof data: every array as the region finds it; an input's buffer is left alone, and the three results are what the body stores. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay113 (TTat m c t) (iblk m c 1 t)
    | ⟨6, _⟩ => lossOf (TTat m c t) (iblk m c 1 t) (iblk m c 4 t)
    | ⟨7, _⟩ => k0_pay112 (TTat m c t) (iblk m c 1 t)
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = k0_pay113 (TTat m c t) (iblk m c 1 t) := by dsimp only [dats]
theorem after0_6 (c : Dev nD) (t : Fin cfg0.N) : (dats m 0 c).after 6 t = lossOf (TTat m c t) (iblk m c 1 t) (iblk m c 4 t) := by dsimp only [dats]
theorem after0_7 (c : Dev nD) (t : Fin cfg0.N) : (dats m 0 c).after 7 t = k0_pay112 (TTat m c t) (iblk m c 1 t) := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0, after0_1, after0_2, after0_3, after0_4, after0_5, after0_6, after0_7]
  simp only [before0_0, before0_1, before0_2, before0_3, before0_4]
  rw [show (dats m 0 c).Φ t.castSucc = Pipeline.ΦD osem0 spec0 H0 (V m) c from rfl, Phi_eq]
  unfold Dat.owesAt Pipeline.owesWithin
  rw [show (dats m 0 c).owed t.castSucc = 0 from rfl, show (dats m 0 c).owed t.succ = 0 from rfl]
  iintro ⟨⟨HS, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (Memref.whole main_v2) (Memref.isWhole_whole _) (win0_5.stage (cfg0.slots t 5)) (hstage0_5 0) (win0_6.stage (cfg0.slots t 6)) (hstage0_6 0) (win0_7.stage (cfg0.slots t 7)) (hstage0_7 0) (Memref.whole cc0_scratch0) (Memref.isWhole_whole _) cc0_scratch1 (iblk m c 0 t) (iblk m c 1 t) (iblk m c 2 t) (iblk m c 3 t) (iblk m c 4 t) (V m c main_v2) W _)
  isplitl [H0]; · iexact H0
  isplitl [H1]; · iexact H1
  isplitl [H2]; · iexact H2
  isplitl [H3]; · iexact H3
  isplitl [H4]; · iexact H4
  isplitl [Hh]; · iexact Hh
  isplitl [H5]; · iexists _; iexact H5
  isplitl [H6]; · iexists _; iexact H6
  isplitl [H7]; · iexists _; iexact H7
  isplitl [HS]; · iexact HS
  isplitl [Hq]; · iexact Hq
  isplitl [HW]; · iexact HW
  iintro ⟨H0, H1, H2, H3, H4, Hh, H5, H6, H7, HS, Hq, ⟨%W', HW'⟩⟩
  isplitl [HS Hg Hq Hh]
  · isplitl [HS]; · iexact HS
    isplitl [Hg]; · iexact Hg
    isplitl [Hq]; · iexact Hq
    iexact Hh
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := fun _ => .rfl) (hout := fun _ => .rfl)

/-- An array that no window stages and no later host line writes ends as the region finds it. -/
theorem W_keep (c : Dev nD) (b : Ref sig .tc) (hw : ∀ op ∈ (hostOps1 : List (HloOp τ sig (Elt F))), Proc.devRef .tc b ∉ op.writes)
    (hne : ∀ w, Pipeline.arrRef spec0 w ≠ b) : Pipeline.afterTail₀ cfgs (dats m) 0 (V0 m) [hostOps1] c b = V m c b := by
  unfold Pipeline.afterTail₀
  rw [StableHlo.after_of_forall_not_mem (b := Proc.devRef .tc b) _ _ (by simpa using hw), Pipeline.withArrays_of_ne _ c (V0 m c) _ b hne]

/-- No host line after the region writes a buffer other than its three results. -/
theorem hostOps1_keep (b : Ref sig .tc) (h7 : b ≠ main_v7) (h8 : b ≠ main_v8) (h9 : b ≠ main_v9) :
    ∀ op ∈ (hostOps1 : List (HloOp τ sig (Elt F))), Proc.devRef .tc b ∉ op.writes := by
  intro op hop
  simp only [hostOps1, List.mem_cons, List.mem_nil_iff, or_false] at hop
  rcases hop with rfl | rfl | rfl
  all_goals simp only [StableHlo.unary_writes, StableHlo.reshape_writes, Finset.mem_singleton]
  · exact StableHlo.devRef_ne_of_ne h7
  · exact StableHlo.devRef_ne_of_ne h8
  · exact StableHlo.devRef_ne_of_ne h9

/-- What a run leaves in a buffer that no window stages and no later line writes. -/
theorem end_keep {r : PUnit × MemSt nD τ sig (Elt F)} (c : Dev nD) (b : Ref sig .tc)
    (h : Pipeline.FramePost cfgs (dats m) 0 (Pipeline.afterTail₀ cfgs (dats m) 0 (V0 m) [hostOps1]) r)
    (hr : b ∈ Pipeline.restRefs sig spec0) (hne : ∀ w, Pipeline.arrRef spec0 w ≠ b) (h7 : b ≠ main_v7) (h8 : b ≠ main_v8) (h9 : b ≠ main_v9) :
    r.2.mem ((c.tc : Thread nD τ).loc b) = V m c b :=
  ((h c).2 b hr).trans (W_keep m c b (hostOps1_keep b h7 h8 h9) hne)

/-- The arguments end as launched. -/
theorem args_kept {r : PUnit × MemSt nD τ sig (Elt F)} (c : Dev nD)
    (h : Pipeline.FramePost cfgs (dats m) 0 (Pipeline.afterTail₀ cfgs (dats m) 0 (V0 m) [hostOps1]) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(end_keep m c main_arg0 h (Pipeline.mem_restRefs_of main_arg0 (by decide) (by decide)) (by decide) (by decide) (by decide) (by decide)).trans (V_main_arg0 m c),
    (end_keep m c main_arg1 h (Pipeline.mem_restRefs_of main_arg1 (by decide) (by decide)) (by decide) (by decide) (by decide) (by decide)).trans (V_main_arg1 m c),
    (end_keep m c main_arg2 h (Pipeline.mem_restRefs_of main_arg2 (by decide) (by decide)) (by decide) (by decide) (by decide) (by decide)).trans (V_main_arg2 m c),
    (end_keep m c main_arg3 h (Pipeline.mem_restRefs_of main_arg3 (by decide) (by decide)) (by decide) (by decide) (by decide) (by decide)).trans (V_main_arg3 m c),
    (end_keep m c main_arg4 h (Pipeline.mem_restRefs_of main_arg4 (by decide) (by decide)) (by decide) (by decide) (by decide) (by decide)).trans (V_main_arg4 m c),
    (end_keep m c main_arg5 h (Pipeline.mem_restRefs_of main_arg5 (by decide) (by decide)) (by decide) (by decide) (by decide) (by decide)).trans (V_main_arg5 m c)⟩

/-- The frame: every argument ends as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => args_kept m c h.1, h.2⟩) (run_main m ρ)

end Cert.KernelIdeal.Hand

end
-- ==== Proof.MaxSim.lean ====
module

public import Idealize.ShloMosaic.Lib.Pointwise

@[expose] public section

noncomputable section

/-! The late-interaction score as plain mathematics over the extended reals: the best match of one query token in one
    document, and the loss of one row of scores. Nothing here mentions a program. -/

namespace Cert.MaxSim

open Idealize.ShloMosaic

/-- The best match of a query token (codes `q`, scale `qs`) among the first `len` tokens of a document (codes `d`,
    scales `ds`); a document without tokens gives `⊥`. -/
def best (q : Fin 128 → EReal) (qs : EReal) (d : Fin 180 → Fin 128 → EReal) (ds : Fin 180 → EReal) (len : BitVec 32) : EReal :=
  Finset.univ.sup fun s =>
    Scalar.select (IntOp.cmpi .slt (BitVec.ofNat 32 s.val) len) ((∑ k, d s k * q k) * qs * ds s) ⊥

/-- The number subtracted before the exponentials: the row's maximum, or `0` where that is not finite. -/
def guard (S : Fin 960 → EReal) : EReal :=
  if Finset.univ.sup S = ⊤ ∨ Finset.univ.sup S = ⊥ then 0 else Finset.univ.sup S

/-- The loss of one row of scores against its positive document `p`. -/
def loss (S : Fin 960 → EReal) (p : Fin 960) : EReal :=
  (Ideal.log (∑ x, Ideal.exp (S x - guard S)) + guard S) - S p

/-- `a > b` read signed is `b < a`. -/
theorem sgt_slt (a b : BitVec 32) : IntOp.cmpi .sgt a b = IntOp.cmpi .slt b a := rfl

/-- A positive factor keeps the order. -/
theorem mul_mono {c : EReal} (hc : 0 < c) : Monotone fun x : EReal => x * c :=
  fun _ _ h => mul_le_mul_of_nonneg_right h hc.le

/-- The kernel's order of work: the positive scale of the query token is applied once, after the maximum. -/
theorem best_of_scaled_last (q : Fin 128 → EReal) {qs : EReal} (hq : 0 < qs) (d : Fin 180 → Fin 128 → EReal) (ds : Fin 180 → EReal)
    (len : BitVec 32) :
    (Finset.univ.sup fun s : Fin 180 =>
        (Scalar.select (IntOp.cmpi .sgt len (BitVec.ofNat 32 s.val)) ((∑ k, q k * d s k) * ds s) ⊥ : EReal)) * qs
      = best q qs d ds len := by
  rw [Finset.comp_sup_eq_sup_comp_of_is_total (fun x : EReal => x * qs) (mul_mono hq) (EReal.bot_mul_of_pos hq)]
  refine Finset.sup_congr rfl fun s _ => ?_
  show Scalar.select _ _ _ * qs = _
  rw [sgt_slt]
  unfold Scalar.select
  split
  · rw [mul_right_comm]
    simp only [mul_comm]
  · exact EReal.bot_mul_of_pos hq

/-- The maximum of a row, as the programs fold it. -/
theorem fold_sup {n : ℕ} (f : Fin n → EReal) : Finset.fold max (Ideal.ofBits .f32 0xFF800000#32) f Finset.univ = Finset.univ.sup f := by
  have h : Ideal.ofBits .f32 0xFF800000#32 = (⊥ : EReal) := by simp [Ideal.ofBits, Ideal.ieee]
  rw [h]; rfl

/-- The guard as the kernel asks for it: is the maximum finite? -/
theorem guard_kernel (S : Fin 960 → EReal) :
    (Scalar.select (IntOp.xori (FloatOps.weird (F := Ideal) (Finset.univ.sup S)) 1#1) (Finset.univ.sup S) 0 : EReal) = guard S := by
  have h : FloatOps.weird (F := Ideal) (Finset.univ.sup S)
      = BitVec.ofBool (decide (Finset.univ.sup S = (⊤ : EReal) ∨ Finset.univ.sup S = (⊥ : EReal))) := rfl
  rw [h]
  unfold guard Scalar.select
  by_cases g : Finset.univ.sup S = (⊤ : EReal) ∨ Finset.univ.sup S = (⊥ : EReal)
  · rw [if_pos g, decide_eq_true g]; rfl
  · rw [if_neg g, decide_eq_false g]; rfl

/-- The guard as the reference asks for it: is the maximum's magnitude below infinity? -/
theorem guard_reference (S : Fin 960 → EReal) :
    (if (FloatOps.absf (F := Ideal) (φ := .f32) (Finset.univ.sup S) : EReal) < Ideal.ofBits .f32 0x7F800000#32 then Finset.univ.sup S else (0 : EReal))
      = guard S := by
  have h : Ideal.ofBits .f32 0x7F800000#32 = (⊤ : EReal) := by simp [Ideal.ofBits, Ideal.ieee]
  rw [h]
  unfold guard
  generalize Finset.univ.sup S = x
  induction x with
  | bot => rw [Ideal.absf_def]; simp
  | top => rw [Ideal.absf_def]; simp
  | coe r =>
    rw [Ideal.absf_def, if_pos, if_neg]
    · simp
    · rw [← EReal.coe_neg]
      exact max_lt (EReal.coe_lt_top _) (EReal.coe_lt_top _)

/-! ## Words that name a document -/

theorem word_toInt {p : BitVec 32} (h : p.toNat < 960) : p.toInt = p.toNat := by
  rw [BitVec.toInt_eq_toNat_of_lt (by omega)]

theorem word_slt {p : BitVec 32} (h : p.toNat < 960) : IntOp.cmpi .slt p 0#32 = 0#1 := by
  have := word_toInt h
  have : p.slt 0#32 = false := by simp [BitVec.slt, this]
  show BitVec.ofBool (p.slt 0#32) = _
  rw [this]; rfl

theorem word_sge {p : BitVec 32} (h : p.toNat < 960) : IntOp.cmpi .sge p 0#32 = 1#1 := by
  have := word_toInt h
  have : (0#32).sle p = true := by simp [BitVec.sle, this]
  show BitVec.ofBool ((0#32).sle p) = _
  rw [this]; rfl

theorem word_sle {p : BitVec 32} (h : p.toNat < 960) : IntOp.cmpi .sle p 959#32 = 1#1 := by
  have := word_toInt h
  have : p.sle 959#32 = true := by
    have h9 : (959#32).toInt = 959 := by decide
    simp only [BitVec.sle, this, h9, decide_eq_true_eq]; omega
  show BitVec.ofBool (p.sle 959#32) = _
  rw [this]; rfl

/-- A word that passes the precondition's two comparisons names a document. -/
theorem word_lt {p : BitVec 32} (h0 : IntOp.cmpi .sge p 0#32 = 1#1) (h1 : IntOp.cmpi .slt p 960#32 = 1#1) : p.toNat < 960 := by
  have g0 : (0#32).sle p = true := by
    revert h0; show BitVec.ofBool ((0#32).sle p) = _ → _
    cases (0#32).sle p <;> decide
  have g1 : p.slt 960#32 = true := by
    revert h1; show BitVec.ofBool (p.slt 960#32) = _ → _
    cases p.slt 960#32 <;> decide
  have h9 : (960#32).toInt = 960 := by decide
  have hz : (0#32).toInt = 0 := by decide
  simp only [BitVec.sle, BitVec.slt, hz, h9, decide_eq_true_eq] at g0 g1
  rw [BitVec.toInt_eq_toNat_cond] at g0 g1
  split at g0 <;> rename_i hh <;> simp only [hh, if_true, if_false] at g1 <;> omega

/-- Summing a row masked to the one lane whose number is the word reads that lane. -/
theorem sum_onehot (S : Fin 960 → EReal) {p : BitVec 32} (h : p.toNat < 960) :
    (∑ x : Fin 960, (Scalar.select (IntOp.cmpi .eq (BitVec.ofNat 32 x.val) p) (S x) 0 : EReal)) = S ⟨p.toNat, h⟩ := by
  have e : ∀ x : Fin 960, (Scalar.select (IntOp.cmpi .eq (BitVec.ofNat 32 x.val) p) (S x) 0 : EReal)
      = if x = ⟨p.toNat, h⟩ then S x else 0 := by
    intro x
    have hb : IntOp.cmpi .eq (BitVec.ofNat 32 x.val) p = BitVec.ofBool (decide (BitVec.ofNat 32 x.val = p)) := rfl
    rw [hb]
    have hx := x.isLt
    by_cases g : x = ⟨p.toNat, h⟩
    · have : BitVec.ofNat 32 x.val = p := by rw [g]; exact BitVec.ofNat_toNat 32 p |>.trans (BitVec.setWidth_eq p)
      rw [if_pos g, decide_eq_true this]; rfl
    · have : ¬ BitVec.ofNat 32 x.val = p := fun k => g (Fin.ext (by
        show x.val = p.toNat
        rw [← k, BitVec.toNat_ofNat]; omega))
      rw [if_neg g, decide_eq_false this]; rfl
  rw [Finset.sum_congr rfl fun x _ => e x, Finset.sum_ite_eq' Finset.univ]
  exact if_pos (Finset.mem_univ _)

/-! ## The three results, from the six arguments -/

variable (q : (⟨3, ![6, 32, 128]⟩ : Shape).Idx → EReal) (qs : (⟨2, ![6, 32]⟩ : Shape).Idx → EReal)
  (d : (⟨3, ![960, 180, 128]⟩ : Shape).Idx → EReal) (ds : (⟨2, ![960, 180]⟩ : Shape).Idx → EReal)
  (len : (⟨1, ![960]⟩ : Shape).Idx → BitVec 32)

/-- The best match of token `t` of query `b` in document `j`. -/
def tokenMax (b : Fin 6) (j : Fin 960) (t : Fin 32) : EReal :=
  best (fun k => q (ix3 b t k)) (qs (ix2 b t)) (fun s k => d (ix3 j s k)) (fun s => ds (ix2 j s)) (len (ix1 j))

/-- The score of document `j` for query `b`: the sum of its tokens' best matches. -/
def score (b : Fin 6) (j : Fin 960) : EReal := ∑ t, tokenMax q qs d ds len b j t

end Cert.MaxSim

end
-- ==== Proof.Pre.lean ====
module

public import proofs.«01_k».proof.Defs
public import proofs.«01_k».proof.Proof.MaxSim
public import Idealize.ShloMosaic.Lib.ReduceAll
public import Idealize.ShloMosaic.Lib.Pointwise

@[expose] public section

noncomputable section

/-! What the precondition says of the arguments: the queries' scales are positive, and every positive index names a
    document. -/

namespace Cert.Pre_pre

open Idealize.ShloMosaic

theorem facts : Facts where
  bcast_S_S6x32 := by decide
  reducesTo_S6x32_S_d0_1 := by decide
  h_S_ := by decide
  bcast_S_S6 := by decide
  reducesTo_S6_S_d0 := by decide

instance : Subsingleton S_.Idx := ⟨fun _ _ => funext fun a => a.elim0⟩

variable [Facts] (a0 : FVec Ideal S6x32x128 .fp8e4m3) (a1 : FVec Ideal S6x32 .f32) (a2 : FVec Ideal S960x180x128 .fp8e4m3)
  (a3 : FVec Ideal S960x180 .f32) (a4 : IVec S960 32) (a5 : IVec S6 32)

theorem both (h : fn a0 a1 a2 a3 a4 a5 = fun _ => 1#1) :
    (∀ i, cmpf .ogt a1 (broadcastInDim S6x32 ![] Facts.bcast_S_S6x32 (constant S_ .f32 0x00000000#32)) i = 1#1)
      ∧ ∀ i, andi (cmpi .sge a5 (broadcastInDim S6 ![] Facts.bcast_S_S6 (constantI S_ 32 0#32)))
          (cmpi .slt a5 (broadcastInDim S6 ![] Facts.bcast_S_S6 (constantI S_ 32 960#32))) i = 1#1 := by
  have h0 := congrFun h (fun a => a.elim0)
  obtain ⟨hl, hr⟩ := IntOp.andi_eq_one.1 h0
  exact ⟨fun i => Host.reduce_andi_all _ _ _ _ _ hl i, fun i => Host.reduce_andi_all _ _ _ _ _ hr i⟩

theorem scale_pos (h : fn a0 a1 a2 a3 a4 a5 = fun _ => 1#1) (b : Fin 6) (t : Fin 32) : (0 : EReal) < a1 (ix2 b t) := by
  have g := (both a0 a1 a2 a3 a4 a5 h).1 (ix2 b t)
  revert g
  pointwise
  intro g
  by_contra k
  rw [decide_eq_false k] at g
  exact absurd g (by decide)

theorem doc_lt (h : fn a0 a1 a2 a3 a4 a5 = fun _ => 1#1) (b : Fin 6) : (a5 (ix1 b) : BitVec 32).toNat < 960 := by
  obtain ⟨hl, hr⟩ := IntOp.andi_eq_one.1 ((both a0 a1 a2 a3 a4 a5 h).2 (ix1 b))
  exact MaxSim.word_lt hl hr

end Cert.Pre_pre

end
-- ==== Proof.Kern.PairDef.lean ====
module

public import proofs.«01_k».proof.Proof.Kern.Trip

/-!
# One pair of document rows, as a pure function

A trip of the loop takes its twelve document rows two at a time, and each pair in four blocks of
columns, three of width 256 and one of width 192. Every block does the same thing: one product of
the stacked query block with the two rows side by side, each half scaled and masked by the length,
the greater of the two, and the greater of that and what stood there. The definitions here say this
once for each width.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section
/-- Where the length exceeds `s` the value `y`, elsewhere −∞ (width 256). -/
def mask256 (len : IVec S1x256 32) (s : BitVec 32) (y : FVec F S192x256 .f32) : FVec F S192x256 .f32 :=
  select (broadcastTo S192x256 (shapeCast S1x256 (cmpi .sgt len (broadcast S1x256 s)) shapeCasts_S1x256_S1x256) broadcasts_S1x256_S192x256)
    y (broadcast S192x256 (Scalar.ofBits .f32 0xFF800000#32))

/-- What one pair of rows stores in a block of 256 columns. -/
def pay256 (v65 : FVec F S384x256 .fp8e4m3) (s : BitVec 32) (a b : Vec F S1x256x128 .fp8e4m3) (len : Vec F S1x256 .i32)
    (d0 d1 : Vec F S1x256 .f32) (old : Vec F S192x256 .f32) : FVec F S192x256 .f32 :=
  maximumf (shapeCast S192x256 old shapeCasts_S192x256_S192x256)
    (maximumf
      (mask256 (k0_pay3 (F := F) len) s (mulf (extractStridedSlice S192x256 ![0, 0] (k0_pay2 v65 a b) slices_S384x256_o0_0_S192x256)
        (broadcastTo S192x256 (shapeCast S1x256 d0 shapeCasts_S1x256_S1x256) broadcasts_S1x256_S192x256)))
      (mask256 (k0_pay3 (F := F) len) (Scalar.addi s 1#32) (k0_pay4 v65 a b d1)))

/-- Where the length exceeds `s` the value `y`, elsewhere −∞ (width 192). -/
def mask192 (len : IVec S1x192 32) (s : BitVec 32) (y : FVec F S192x192 .f32) : FVec F S192x192 .f32 :=
  select (broadcastTo S192x192 (shapeCast S1x192 (cmpi .sgt len (broadcast S1x192 s)) shapeCasts_S1x192_S1x192) broadcasts_S1x192_S192x192)
    y (broadcast S192x192 (Scalar.ofBits .f32 0xFF800000#32))

/-- What one pair of rows stores in the block of 192 columns. -/
def pay192 (v65 : FVec F S384x256 .fp8e4m3) (s : BitVec 32) (a b : Vec F S1x192x128 .fp8e4m3) (len : Vec F S1x192 .i32)
    (d0 d1 : Vec F S1x192 .f32) (old : Vec F S192x192 .f32) : FVec F S192x192 .f32 :=
  maximumf (shapeCast S192x192 old shapeCasts_S192x192_S192x192)
    (maximumf
      (mask192 (shapeCast S1x192 len shapeCasts_S1x192_S1x192) s (mulf (extractStridedSlice S192x192 ![0, 0] (k0_pay17 v65 a b) slices_S384x192_o0_0_S192x192)
        (broadcastTo S192x192 (shapeCast S1x192 d0 shapeCasts_S1x192_S1x192) broadcasts_S1x192_S192x192)))
      (mask192 (shapeCast S1x192 len shapeCasts_S1x192_S1x192) (Scalar.addi s 1#32) (mulf (extractStridedSlice S192x192 ![192, 0] (k0_pay17 v65 a b) slices_S384x192_o192_0_S192x192)
        (broadcastTo S192x192 (shapeCast S1x192 d1 shapeCasts_S1x192_S1x192) broadcasts_S1x192_S192x192))))

/-- The number of the first row of a pair, as the kernel computes it. -/
def sWord (k : Fin k0_t1_loop.trips) (b : BitVec 32) : BitVec 32 :=
  Scalar.addi (Scalar.muli (Scf.iv 0#32 1#32 k) 12#32) b

end

end Cert.KernelIdeal.Hand
end
-- ==== Proof.Kern.PairValue.lean ====
module

public import proofs.«01_k».proof.Proof.Kern.PairDef
public import Idealize.ShloMosaic.Lib.Pointwise

/-!
# What a pair of rows stores, over the extended reals

At the ideal numbers one row of documents contributes, at a query and a document, the scaled product
where the length exceeds the row's number and −∞ elsewhere. A pair's store is the greatest of what
stood there and the two rows' contributions.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- Row `s`'s contribution at a query row and a document: the scaled product below the length, else −∞. -/
def yv (v60 : Vec Ideal S192x128 .fp8e4m3) (x2 : Vec Ideal S180x960 .f32) (x3 : Vec Ideal S1x960 .i32)
    (x9 : Vec Ideal S180x960x128 .fp8e4m3) (s : Fin 180) (q : Fin 192) (j : Fin 960) : EReal :=
  Scalar.select (IntOp.cmpi .sgt (x3 (ix2 0 j)) (BitVec.ofNat 32 s.val))
    ((∑ d : Fin 128, (v60 (ix2 q d) : EReal) * (x9 (ix3 s j d) : EReal)) * (x2 (ix2 s j) : EReal)) (⊥ : EReal)

theorem neg_inf : Ideal.ofBits .f32 0xFF800000#32 = (⊥ : EReal) := by
  simp [Ideal.ofBits, Ideal.ieee]

theorem zero8 : Ideal.ofBits .fp8e4m3 0x00#8 = (0 : EReal) := Ideal.ofBits_zero .fp8e4m3

section
variable (v60 : Vec Ideal S192x128 .fp8e4m3) (x2 : Vec Ideal S180x960 .f32) (x3 : Vec Ideal S1x960 .i32)
    (x9 : Vec Ideal S180x960x128 .fp8e4m3) (s s' : Fin 180) (w : BitVec 32)
    (hw : w = BitVec.ofNat 32 s.val) (hw' : Scalar.addi w 1#32 = BitVec.ofNat 32 s'.val)

include hw hw'

/-- A store of width 256, over the rows' contributions. -/
theorem pay256_yv (a b : Vec Ideal S1x256x128 .fp8e4m3) (len : Vec Ideal S1x256 .i32)
    (d0 d1 : Vec Ideal S1x256 .f32) (old : Vec Ideal S192x256 .f32) (q : Fin 192) (z : Fin 256) (j : Fin 960)
    (ha : ∀ d, a (ix3 0 z d) = x9 (ix3 s j d)) (hb : ∀ d, b (ix3 0 z d) = x9 (ix3 s' j d)) (hl : len (ix2 0 z) = x3 (ix2 0 j))
    (h0 : d0 (ix2 0 z) = x2 (ix2 s j)) (h1 : d1 (ix2 0 z) = x2 (ix2 s' j)) :
    pay256 (k0_pay109 v60) w a b len d0 d1 old (ix2 q z)
      = max (old (ix2 q z) : EReal) (max (yv v60 x2 x3 x9 s q j) (yv v60 x2 x3 x9 s' q j)) := by
  pointwise [pay256, mask256, k0_pay109, k0_pay2, k0_pay3, k0_pay4]
  simp only [yv, ha, hb, hl, h0, h1, hw', neg_inf, zero8, zero_mul, Finset.sum_const_zero, add_zero, zero_add]
  rw [hw]

/-- A store of width 192, over the rows' contributions. -/
theorem pay192_yv (a b : Vec Ideal S1x192x128 .fp8e4m3) (len : Vec Ideal S1x192 .i32)
    (d0 d1 : Vec Ideal S1x192 .f32) (old : Vec Ideal S192x192 .f32) (q : Fin 192) (z : Fin 192) (j : Fin 960)
    (ha : ∀ d, a (ix3 0 z d) = x9 (ix3 s j d)) (hb : ∀ d, b (ix3 0 z d) = x9 (ix3 s' j d)) (hl : len (ix2 0 z) = x3 (ix2 0 j))
    (h0 : d0 (ix2 0 z) = x2 (ix2 s j)) (h1 : d1 (ix2 0 z) = x2 (ix2 s' j)) :
    pay192 (k0_pay109 v60) w a b len d0 d1 old (ix2 q z)
      = max (old (ix2 q z) : EReal) (max (yv v60 x2 x3 x9 s q j) (yv v60 x2 x3 x9 s' q j)) := by
  pointwise [pay192, mask192, k0_pay109, k0_pay17]
  simp only [yv, ha, hb, hl, h0, h1, hw', neg_inf, zero8, zero_mul, Finset.sum_const_zero, add_zero, zero_add]
  rw [hw]

end

/-- The numbers of a pair's two rows. -/
def rowA (k : Fin k0_t1_loop.trips) (r : Fin 6) : Fin 180 := ⟨12 * k.val + 2 * r.val, by have := k.isLt; have : k0_t1_loop.trips = 15 := rfl; omega⟩
def rowB (k : Fin k0_t1_loop.trips) (r : Fin 6) : Fin 180 := ⟨12 * k.val + 2 * r.val + 1, by have := k.isLt; have : k0_t1_loop.trips = 15 := rfl; omega⟩

theorem sWord_eq : ∀ (k : Fin k0_t1_loop.trips) (r : Fin 6), sWord k (BitVec.ofNat 32 (2 * r.val)) = BitVec.ofNat 32 (rowA k r).val := by
  decide

theorem sWord_succ : ∀ (k : Fin k0_t1_loop.trips) (r : Fin 6), Scalar.addi (sWord k (BitVec.ofNat 32 (2 * r.val))) 1#32 = BitVec.ofNat 32 (rowB k r).val := by
  decide

theorem sNat : ∀ (k : Fin k0_t1_loop.trips) (r : Fin 6), (Scalar.indexCast (sWord k (BitVec.ofNat 32 (2 * r.val)))).toNat = (rowA k r).val := by
  decide

theorem sNat_succ : ∀ (k : Fin k0_t1_loop.trips) (r : Fin 6), (Scalar.indexCast (Scalar.addi (sWord k (BitVec.ofNat 32 (2 * r.val))) 1#32)).toNat = (rowB k r).val := by
  decide

/-- A load of `n` documents of one row of the codes. -/
theorem load9 {n : ℕ} (arg9 : Memref sig .tc .vmem S180x960x128 .fp8e4m3) (harg9 : arg9.IsWhole) (x9 : Vec Ideal S180x960x128 .fp8e4m3)
    (off : Fin 3 → ℕ) (inb) (s : Fin 180) (col : ℕ) (hoff : off = ![s.val, col, 0]) (z : Fin n) (j : Fin 960) (hj : j.val = col + z.val) (d : Fin 128) :
    arg9.view.readAt (Elt Ideal) (Rect.unit (s := S180x960x128) off (⟨3, ![1, n, 128]⟩ : Shape).size inb).toLoadRect (harg9.unread x9)
      (ix3 0 z d) = x9 (ix3 s j d) := by
  subst hoff
  refine (congrFun (harg9.read_unread x9) _).trans (congrArg x9 (funext fun a => Fin.ext ?_))
  fin_cases a <;> simp [hj]

/-- A load of `n` entries of one row of the document scales. -/
theorem load2 {n : ℕ} (arg2 : Memref sig .tc .vmem S180x960 .f32) (harg2 : arg2.IsWhole) (x2 : Vec Ideal S180x960 .f32)
    (off : Fin 2 → ℕ) (inb) (s : Fin 180) (col : ℕ) (hoff : off = ![s.val, col]) (z : Fin n) (j : Fin 960) (hj : j.val = col + z.val) :
    arg2.view.readAt (Elt Ideal) (Rect.unit (s := S180x960) off (⟨2, ![1, n]⟩ : Shape).size inb).toLoadRect (harg2.unread x2)
      (ix2 0 z) = x2 (ix2 s j) := by
  subst hoff
  refine (congrFun (harg2.read_unread x2) _).trans (congrArg x2 (funext fun a => Fin.ext ?_))
  fin_cases a <;> simp [hj]

/-- A load of `n` of the lengths. -/
theorem load3 {n : ℕ} (arg3 : Memref sig .tc .vmem S1x960 .i32) (harg3 : arg3.IsWhole) (x3 : Vec Ideal S1x960 .i32)
    (col : ℕ) (inb) (z : Fin n) (j : Fin 960) (hj : j.val = col + z.val) :
    arg3.view.readAt (Elt Ideal) (Rect.unit (s := S1x960) ![0, col] (⟨2, ![1, n]⟩ : Shape).size inb).toLoadRect (harg3.unread x3)
      (ix2 0 z) = x3 (ix2 0 j) := by
  refine (congrFun (harg3.read_unread x3) _).trans (congrArg x3 (funext fun a => Fin.ext ?_))
  fin_cases a <;> simp [hj]

end Cert.KernelIdeal.Hand
end
-- ==== Proof.Kern.PairList.lean ====
module

public import proofs.«01_k».proof.Proof.Kern.PairDef

/-!
# The stores of a trip, pair by pair

A trip stores 24 blocks. They are six times the same four: for each of the six pairs of document
rows the four column blocks in order, with the pair's number the only thing that differs.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- How a store of the trip reads what stands in the scratch: from the stores so far and a rectangle. -/
abbrev Old (F : FTy → Type) := List (View.Piece (Elt F) S192x960 .f32) → (r : LoadRect S192x960) → r.shape.Idx → Elt F .f32

section
variable (arg2 : Memref sig .tc .vmem S180x960 .f32) (harg2 : arg2.IsWhole) (arg3 : Memref sig .tc .vmem S1x960 .i32) (harg3 : arg3.IsWhole)
    (arg9 : Memref sig .tc .vmem S180x960x128 .fp8e4m3) (harg9 : arg9.IsWhole)
    (v60 : Vec F S192x128 .fp8e4m3) (x2 : Vec F S180x960 .f32) (x3 : Vec F S1x960 .i32) (x9 : Vec F S180x960x128 .fp8e4m3)
    (k : Fin k0_t1_loop.trips) (old : Old F) (r : Fin 6) (tl : List (View.Piece (Elt F) S192x960 .f32))

/-- The stores `tl` and then the pair's store into columns 0 to 255. -/
def ext0 : List (View.Piece (Elt F) S192x960 .f32) :=
  ⟨Rect.unit ![0, 0] S192x256.size inb_S192x960_S192x256_0_0,
    pay256 (k0_pay109 v60) (sWord k (BitVec.ofNat 32 (2 * r.val)))
      (arg9.view.readAt (Elt F) (Rect.unit (s := S180x960x128) (k0_off3 k (BitVec.ofNat 32 (2 * r.val))) S1x256x128.size (k0_off3_inb k r)).toLoadRect (harg9.unread x9))
      (arg9.view.readAt (Elt F) (Rect.unit (s := S180x960x128) (k0_off4 k (BitVec.ofNat 32 (2 * r.val))) S1x256x128.size (k0_off4_inb k r)).toLoadRect (harg9.unread x9))
      (arg3.view.readAt (Elt F) (Rect.unit (s := S1x960) ![0, 0] S1x256.size inb_S1x960_S1x256_0_0).toLoadRect (harg3.unread x3))
      (arg2.view.readAt (Elt F) (Rect.unit (s := S180x960) (k0_off5 k (BitVec.ofNat 32 (2 * r.val))) S1x256.size (k0_off5_inb k r)).toLoadRect (harg2.unread x2))
      (arg2.view.readAt (Elt F) (Rect.unit (s := S180x960) (k0_off6 k (BitVec.ofNat 32 (2 * r.val))) S1x256.size (k0_off6_inb k r)).toLoadRect (harg2.unread x2))
      (old tl (Rect.unit (s := S192x960) ![0, 0] S192x256.size inb_S192x960_S192x256_0_0).toLoadRect)⟩ :: tl

/-- The stores `tl` and then the pair's store into columns 256 to 511. -/
def ext1 : List (View.Piece (Elt F) S192x960 .f32) :=
  ⟨Rect.unit ![0, 256] S192x256.size inb_S192x960_S192x256_0_256,
    pay256 (k0_pay109 v60) (sWord k (BitVec.ofNat 32 (2 * r.val)))
      (arg9.view.readAt (Elt F) (Rect.unit (s := S180x960x128) (k0_off7 k (BitVec.ofNat 32 (2 * r.val))) S1x256x128.size (k0_off7_inb k r)).toLoadRect (harg9.unread x9))
      (arg9.view.readAt (Elt F) (Rect.unit (s := S180x960x128) (k0_off8 k (BitVec.ofNat 32 (2 * r.val))) S1x256x128.size (k0_off8_inb k r)).toLoadRect (harg9.unread x9))
      (arg3.view.readAt (Elt F) (Rect.unit (s := S1x960) ![0, 256] S1x256.size inb_S1x960_S1x256_0_256).toLoadRect (harg3.unread x3))
      (arg2.view.readAt (Elt F) (Rect.unit (s := S180x960) (k0_off9 k (BitVec.ofNat 32 (2 * r.val))) S1x256.size (k0_off9_inb k r)).toLoadRect (harg2.unread x2))
      (arg2.view.readAt (Elt F) (Rect.unit (s := S180x960) (k0_off10 k (BitVec.ofNat 32 (2 * r.val))) S1x256.size (k0_off10_inb k r)).toLoadRect (harg2.unread x2))
      (old tl (Rect.unit (s := S192x960) ![0, 256] S192x256.size inb_S192x960_S192x256_0_256).toLoadRect)⟩ :: tl

/-- The stores `tl` and then the pair's store into columns 512 to 767. -/
def ext2 : List (View.Piece (Elt F) S192x960 .f32) :=
  ⟨Rect.unit ![0, 512] S192x256.size inb_S192x960_S192x256_0_512,
    pay256 (k0_pay109 v60) (sWord k (BitVec.ofNat 32 (2 * r.val)))
      (arg9.view.readAt (Elt F) (Rect.unit (s := S180x960x128) (k0_off11 k (BitVec.ofNat 32 (2 * r.val))) S1x256x128.size (k0_off11_inb k r)).toLoadRect (harg9.unread x9))
      (arg9.view.readAt (Elt F) (Rect.unit (s := S180x960x128) (k0_off12 k (BitVec.ofNat 32 (2 * r.val))) S1x256x128.size (k0_off12_inb k r)).toLoadRect (harg9.unread x9))
      (arg3.view.readAt (Elt F) (Rect.unit (s := S1x960) ![0, 512] S1x256.size inb_S1x960_S1x256_0_512).toLoadRect (harg3.unread x3))
      (arg2.view.readAt (Elt F) (Rect.unit (s := S180x960) (k0_off13 k (BitVec.ofNat 32 (2 * r.val))) S1x256.size (k0_off13_inb k r)).toLoadRect (harg2.unread x2))
      (arg2.view.readAt (Elt F) (Rect.unit (s := S180x960) (k0_off14 k (BitVec.ofNat 32 (2 * r.val))) S1x256.size (k0_off14_inb k r)).toLoadRect (harg2.unread x2))
      (old tl (Rect.unit (s := S192x960) ![0, 512] S192x256.size inb_S192x960_S192x256_0_512).toLoadRect)⟩ :: tl

/-- The stores `tl` and then the pair's store into columns 768 to 959. -/
def ext3 : List (View.Piece (Elt F) S192x960 .f32) :=
  ⟨Rect.unit ![0, 768] S192x192.size inb_S192x960_S192x192_0_768,
    pay192 (k0_pay109 v60) (sWord k (BitVec.ofNat 32 (2 * r.val)))
      (arg9.view.readAt (Elt F) (Rect.unit (s := S180x960x128) (k0_off15 k (BitVec.ofNat 32 (2 * r.val))) S1x192x128.size (k0_off15_inb k r)).toLoadRect (harg9.unread x9))
      (arg9.view.readAt (Elt F) (Rect.unit (s := S180x960x128) (k0_off16 k (BitVec.ofNat 32 (2 * r.val))) S1x192x128.size (k0_off16_inb k r)).toLoadRect (harg9.unread x9))
      (arg3.view.readAt (Elt F) (Rect.unit (s := S1x960) ![0, 768] S1x192.size inb_S1x960_S1x192_0_768).toLoadRect (harg3.unread x3))
      (arg2.view.readAt (Elt F) (Rect.unit (s := S180x960) (k0_off17 k (BitVec.ofNat 32 (2 * r.val))) S1x192.size (k0_off17_inb k r)).toLoadRect (harg2.unread x2))
      (arg2.view.readAt (Elt F) (Rect.unit (s := S180x960) (k0_off18 k (BitVec.ofNat 32 (2 * r.val))) S1x192.size (k0_off18_inb k r)).toLoadRect (harg2.unread x2))
      (old tl (Rect.unit (s := S192x960) ![0, 768] S192x192.size inb_S192x960_S192x192_0_768).toLoadRect)⟩ :: tl

/-- The stores `tl` and then the pair's four. -/
def quad : List (View.Piece (Elt F) S192x960 .f32) :=
  ext3 arg2 harg2 arg3 harg3 arg9 harg9 v60 x2 x3 x9 k old r (ext2 arg2 harg2 arg3 harg3 arg9 harg9 v60 x2 x3 x9 k old r
    (ext1 arg2 harg2 arg3 harg3 arg9 harg9 v60 x2 x3 x9 k old r (ext0 arg2 harg2 arg3 harg3 arg9 harg9 v60 x2 x3 x9 k old r tl)))

end

section
variable (c : Dev nD) (arg0 : Memref sig .tc .vmem S192x128 .fp8e4m3) (harg0 : arg0.IsWhole) (arg1 : Memref sig .tc .vmem S192x1 .f32) (harg1 : arg1.IsWhole) (arg2 : Memref sig .tc .vmem S180x960 .f32) (harg2 : arg2.IsWhole) (arg3 : Memref sig .tc .vmem S1x960 .i32) (harg3 : arg3.IsWhole) (arg4 : Memref sig .tc .vmem S6x1 .i32) (harg4 : arg4.IsWhole) (arg5 : Memref sig .tc .hbm S180x960x128 .fp8e4m3) (harg5 : arg5.IsWhole) (arg6 : Memref sig .tc .vmem S6x960 .f32) (harg6 : arg6.IsWhole) (arg7 : Memref sig .tc .vmem S6x1 .f32) (harg7 : arg7.IsWhole) (arg8 : Memref sig .tc .vmem S192x960 .f32) (harg8 : arg8.IsWhole) (arg9 : Memref sig .tc .vmem S180x960x128 .fp8e4m3) (harg9 : arg9.IsWhole) (arg10 : DmaSems sig S15) (v60 : Vec F S192x128 .fp8e4m3)
    (x2 : Vec F S180x960 .f32) (x3 : Vec F S1x960 .i32) (x9 : Vec F S180x960x128 .fp8e4m3) (f5 : Buf (Elt F) (arg5.view.loc (c : Thread nD τ)))
    (k : Fin k0_t1_loop.trips) (x8 : Vec F S192x960 .f32)

/-- The first pair reads the scratch as the trip found it, the others over the stores so far. -/
theorem list_0 : trip.sl.H8_4 arg2 harg2 arg3 harg3 arg8 harg8 arg9 harg9 v60 x2 x3 x9 k x8
    = quad arg2 harg2 arg3 harg3 arg9 harg9 v60 x2 x3 x9 k (fun _ r => arg8.view.readAt (Elt F) r (harg8.unread x8)) 0 [] := rfl

theorem list_1 : trip.sl.H8_8 arg2 harg2 arg3 harg3 arg8 harg8 arg9 harg9 v60 x2 x3 x9 k x8
    = quad arg2 harg2 arg3 harg3 arg9 harg9 v60 x2 x3 x9 k (fun tl r => arg8.view.readCov tl r) 1 (trip.sl.H8_4 arg2 harg2 arg3 harg3 arg8 harg8 arg9 harg9 v60 x2 x3 x9 k x8) := rfl

theorem list_2 : trip.sl.H8_12 arg2 harg2 arg3 harg3 arg8 harg8 arg9 harg9 v60 x2 x3 x9 k x8
    = quad arg2 harg2 arg3 harg3 arg9 harg9 v60 x2 x3 x9 k (fun tl r => arg8.view.readCov tl r) 2 (trip.sl.H8_8 arg2 harg2 arg3 harg3 arg8 harg8 arg9 harg9 v60 x2 x3 x9 k x8) := rfl

theorem list_3 : trip.sl.H8_16 arg2 harg2 arg3 harg3 arg8 harg8 arg9 harg9 v60 x2 x3 x9 k x8
    = quad arg2 harg2 arg3 harg3 arg9 harg9 v60 x2 x3 x9 k (fun tl r => arg8.view.readCov tl r) 3 (trip.sl.H8_12 arg2 harg2 arg3 harg3 arg8 harg8 arg9 harg9 v60 x2 x3 x9 k x8) := rfl

theorem list_4 : trip.sl.H8_20 arg2 harg2 arg3 harg3 arg8 harg8 arg9 harg9 v60 x2 x3 x9 k x8
    = quad arg2 harg2 arg3 harg3 arg9 harg9 v60 x2 x3 x9 k (fun tl r => arg8.view.readCov tl r) 4 (trip.sl.H8_16 arg2 harg2 arg3 harg3 arg8 harg8 arg9 harg9 v60 x2 x3 x9 k x8) := rfl

theorem list_5 : (trip c arg0 harg0 arg1 harg1 arg2 harg2 arg3 harg3 arg4 harg4 arg5 harg5 arg6 harg6 arg7 harg7 arg8 harg8 arg9 harg9 arg10 v60 x2 x3 x9 f5 k x8).1
    = quad arg2 harg2 arg3 harg3 arg9 harg9 v60 x2 x3 x9 k (fun tl r => arg8.view.readCov tl r) 5 (trip.sl.H8_20 arg2 harg2 arg3 harg3 arg8 harg8 arg9 harg9 v60 x2 x3 x9 k x8) := rfl
end
end Cert.KernelIdeal.Hand
end
-- ==== Proof.Kern.PairStep.lean ====
module

public import proofs.«01_k».proof.Proof.Kern.PairValue
public import proofs.«01_k».proof.Proof.Kern.PairList
public import Idealize.ShloMosaic.Lib.WritesUnit

/-!
# What the four stores of a pair leave

The four blocks of a pair cover the scratch. After them every element is the greatest of what stood
there before the pair and the two rows' contributions.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- One store of the columns from `col` on, where the columns before it are done already. -/
theorem block_step {w : ℕ} (v : View sig .tc .vmem S192x960 .f32) (f : v.ty.Contents (Elt Ideal)) (tl : List (View.Piece (Elt Ideal) S192x960 .f32))
    (col : ℕ) (inb) (pay : (⟨2, ![192, w]⟩ : Shape).Idx → Elt Ideal .f32) (M X : Fin 192 → Fin 960 → EReal)
    (hX : ∀ q j, (v.read (Elt Ideal) (v.writes (Elt Ideal) f tl) (ix2 q j) : EReal) = if j.val < col then M q j else X q j)
    (hp : ∀ q (z : Fin w) (j : Fin 960), j.val = col + z.val → (pay (ix2 q z) : EReal) = M q j) (q : Fin 192) (j : Fin 960) :
    (v.read (Elt Ideal) (v.writes (Elt Ideal) f (⟨Rect.unit (s := S192x960) ![0, col] (⟨2, ![192, w]⟩ : Shape).size inb, pay⟩ :: tl)) (ix2 q j) : EReal)
      = if j.val < col + w then M q j else X q j := by
  by_cases h : col ≤ j.val ∧ j.val < col + w
  · refine (View.read_writes_cons_unit_of_mem v f inb pay tl (ix2 q j) (ix2 q ⟨j.val - col, by omega⟩) rfl ?_).trans ?_
    · intro a; fin_cases a
      · simp
      · simp; omega
    · rw [if_pos h.2]
      exact hp q ⟨j.val - col, by omega⟩ j (by simp; omega)
  · refine (View.read_writes_cons_unit_of_not_mem v f inb pay tl (ix2 q j) rfl 1 ?_).trans ?_
    · simp; omega
    · rw [hX]
      by_cases h' : j.val < col
      · rw [if_pos h', if_pos (by omega)]
      · rw [if_neg h', if_neg (by omega)]

section
variable (arg2 : Memref sig .tc .vmem S180x960 .f32) (harg2 : arg2.IsWhole) (arg3 : Memref sig .tc .vmem S1x960 .i32) (harg3 : arg3.IsWhole)
    (v : View sig .tc .vmem S192x960 .f32) (f : v.ty.Contents (Elt Ideal))
    (arg9 : Memref sig .tc .vmem S180x960x128 .fp8e4m3) (harg9 : arg9.IsWhole)
    (v60 : Vec Ideal S192x128 .fp8e4m3) (x2 : Vec Ideal S180x960 .f32) (x3 : Vec Ideal S1x960 .i32) (x9 : Vec Ideal S180x960x128 .fp8e4m3)
    (k : Fin k0_t1_loop.trips) (old : Old Ideal) (r : Fin 6) (tl : List (View.Piece (Elt Ideal) S192x960 .f32))
    (X : Fin 192 → Fin 960 → EReal)

/-- What a pair makes of `X`. -/
def pairMax (q : Fin 192) (j : Fin 960) : EReal :=
  max (X q j) (max (yv v60 x2 x3 x9 (rowA k r) q j) (yv v60 x2 x3 x9 (rowB k r) q j))

/-- The columns before `col` are what the pair makes of `X`, the others still `X`. -/
def Upto (col : ℕ) (L : List (View.Piece (Elt Ideal) S192x960 .f32)) : Prop :=
  ∀ q j, (v.read (Elt Ideal) (v.writes (Elt Ideal) f L) (ix2 q j) : EReal)
    = if j.val < col then pairMax v60 x2 x3 x9 k r X q j else X q j

/-- The way a pair reads the scratch gives `X` wherever the stores so far have left `X`. -/
def Reads : Prop :=
  ∀ (L : List (View.Piece (Elt Ideal) S192x960 .f32)) (B : LoadRect S192x960) (i : B.shape.Idx) (q : Fin 192) (j : Fin 960),
    tl <:+ L → B.idx i = ix2 q j → (v.read (Elt Ideal) (v.writes (Elt Ideal) f L) (ix2 q j) : EReal) = X q j → (old L B i : EReal) = X q j

variable {v f v60 x2 x3 x9 k old r tl X}

/-- The old value of a block, at one of its indices. -/
theorem Reads.block {w : ℕ} {L : List (View.Piece (Elt Ideal) S192x960 .f32)} {col : ℕ} (hR : Reads v f old tl X) (hL : tl <:+ L)
    (hU : Upto v f v60 x2 x3 x9 k r X col L) (inb) (q : Fin 192) (z : Fin w) (j : Fin 960) (hj : j.val = col + z.val) :
    (old L (Rect.unit (s := S192x960) ![0, col] (⟨2, ![192, w]⟩ : Shape).size inb).toLoadRect (ix2 q z) : EReal) = X q j := by
  refine hR L _ _ q j hL ?_ ?_
  · funext a; apply Fin.ext; fin_cases a <;> simp [hj]
  · rw [hU, if_neg (by omega)]

theorem ext0_upto (hR : Reads v f old tl X) {L : List (View.Piece (Elt Ideal) S192x960 .f32)} (hL : tl <:+ L) (hU : Upto v f v60 x2 x3 x9 k r X 0 L) :
    Upto v f v60 x2 x3 x9 k r X 256 (ext0 arg2 harg2 arg3 harg3 arg9 harg9 v60 x2 x3 x9 k old r L) := by
  refine fun q j => block_step v f L 0 _ _ _ X hU (fun q z j hj => ?_) q j
  refine (pay256_yv v60 x2 x3 x9 (rowA k r) (rowB k r) _ (sWord_eq k r) (sWord_succ k r) _ _ _ _ _ _ q z j
    (load9 arg9 harg9 x9 _ _ _ 0 (by rw [← sNat]; rfl) z j hj) (load9 arg9 harg9 x9 _ _ _ 0 (by rw [← sNat_succ]; rfl) z j hj)
    (load3 arg3 harg3 x3 0 _ z j hj) (load2 arg2 harg2 x2 _ _ _ 0 (by rw [← sNat]; rfl) z j hj)
    (load2 arg2 harg2 x2 _ _ _ 0 (by rw [← sNat_succ]; rfl) z j hj)).trans ?_
  exact congrArg (max · _) (hR.block hL hU _ q z j hj)

theorem ext1_upto (hR : Reads v f old tl X) {L : List (View.Piece (Elt Ideal) S192x960 .f32)} (hL : tl <:+ L) (hU : Upto v f v60 x2 x3 x9 k r X 256 L) :
    Upto v f v60 x2 x3 x9 k r X 512 (ext1 arg2 harg2 arg3 harg3 arg9 harg9 v60 x2 x3 x9 k old r L) := by
  refine fun q j => block_step v f L 256 _ _ _ X hU (fun q z j hj => ?_) q j
  refine (pay256_yv v60 x2 x3 x9 (rowA k r) (rowB k r) _ (sWord_eq k r) (sWord_succ k r) _ _ _ _ _ _ q z j
    (load9 arg9 harg9 x9 _ _ _ 256 (by rw [← sNat]; rfl) z j hj) (load9 arg9 harg9 x9 _ _ _ 256 (by rw [← sNat_succ]; rfl) z j hj)
    (load3 arg3 harg3 x3 256 _ z j hj) (load2 arg2 harg2 x2 _ _ _ 256 (by rw [← sNat]; rfl) z j hj)
    (load2 arg2 harg2 x2 _ _ _ 256 (by rw [← sNat_succ]; rfl) z j hj)).trans ?_
  exact congrArg (max · _) (hR.block hL hU _ q z j hj)

theorem ext2_upto (hR : Reads v f old tl X) {L : List (View.Piece (Elt Ideal) S192x960 .f32)} (hL : tl <:+ L) (hU : Upto v f v60 x2 x3 x9 k r X 512 L) :
    Upto v f v60 x2 x3 x9 k r X 768 (ext2 arg2 harg2 arg3 harg3 arg9 harg9 v60 x2 x3 x9 k old r L) := by
  refine fun q j => block_step v f L 512 _ _ _ X hU (fun q z j hj => ?_) q j
  refine (pay256_yv v60 x2 x3 x9 (rowA k r) (rowB k r) _ (sWord_eq k r) (sWord_succ k r) _ _ _ _ _ _ q z j
    (load9 arg9 harg9 x9 _ _ _ 512 (by rw [← sNat]; rfl) z j hj) (load9 arg9 harg9 x9 _ _ _ 512 (by rw [← sNat_succ]; rfl) z j hj)
    (load3 arg3 harg3 x3 512 _ z j hj) (load2 arg2 harg2 x2 _ _ _ 512 (by rw [← sNat]; rfl) z j hj)
    (load2 arg2 harg2 x2 _ _ _ 512 (by rw [← sNat_succ]; rfl) z j hj)).trans ?_
  exact congrArg (max · _) (hR.block hL hU _ q z j hj)

theorem ext3_upto (hR : Reads v f old tl X) {L : List (View.Piece (Elt Ideal) S192x960 .f32)} (hL : tl <:+ L) (hU : Upto v f v60 x2 x3 x9 k r X 768 L) :
    Upto v f v60 x2 x3 x9 k r X 960 (ext3 arg2 harg2 arg3 harg3 arg9 harg9 v60 x2 x3 x9 k old r L) := by
  refine fun q j => block_step v f L 768 _ _ _ X hU (fun q z j hj => ?_) q j
  refine (pay192_yv v60 x2 x3 x9 (rowA k r) (rowB k r) _ (sWord_eq k r) (sWord_succ k r) _ _ _ _ _ _ q z j
    (load9 arg9 harg9 x9 _ _ _ 768 (by rw [← sNat]; rfl) z j hj) (load9 arg9 harg9 x9 _ _ _ 768 (by rw [← sNat_succ]; rfl) z j hj)
    (load3 arg3 harg3 x3 768 _ z j hj) (load2 arg2 harg2 x2 _ _ _ 768 (by rw [← sNat]; rfl) z j hj)
    (load2 arg2 harg2 x2 _ _ _ 768 (by rw [← sNat_succ]; rfl) z j hj)).trans ?_
  exact congrArg (max · _) (hR.block hL hU _ q z j hj)

/-- A pair makes of the scratch the greatest of it and the two rows' contributions. -/
theorem quad_read (hR : Reads v f old tl X) (hX : ∀ q j, (v.read (Elt Ideal) (v.writes (Elt Ideal) f tl) (ix2 q j) : EReal) = X q j) (q : Fin 192) (j : Fin 960) :
    (v.read (Elt Ideal) (v.writes (Elt Ideal) f (quad arg2 harg2 arg3 harg3 arg9 harg9 v60 x2 x3 x9 k old r tl)) (ix2 q j) : EReal)
      = pairMax v60 x2 x3 x9 k r X q j := by
  have s1 := List.suffix_refl tl
  have u0 : Upto v f v60 x2 x3 x9 k r X 0 tl := fun q j => by rw [hX, if_neg (by omega)]
  have u1 := ext0_upto arg2 harg2 arg3 harg3 arg9 harg9 hR s1 u0
  have u2 := ext1_upto arg2 harg2 arg3 harg3 arg9 harg9 hR (List.suffix_cons _ _) u1
  have u3 := ext2_upto arg2 harg2 arg3 harg3 arg9 harg9 hR ((List.suffix_cons _ _).trans (List.suffix_cons _ _)) u2
  have u4 := ext3_upto arg2 harg2 arg3 harg3 arg9 harg9 hR
    (((List.suffix_cons _ _).trans (List.suffix_cons _ _)).trans (List.suffix_cons _ _)) u3
  exact (u4 q j).trans (if_pos j.isLt)

end

end Cert.KernelIdeal.Hand
end
-- ==== Proof.Kern.LoopValue.lean ====
module

public import proofs.«01_k».proof.Proof.Kern.PairStep
public import proofs.«01_k».proof.Proof.Kern.Body

/-!
# What the loop leaves in the scratch

After `n` trips every element of the scratch is the greatest contribution of the first `12 n` rows
of documents (−∞ when there is none above it), so after the fifteen trips it is the greatest of all
180.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section
variable (v60 : Vec Ideal S192x128 .fp8e4m3) (x2 : Vec Ideal S180x960 .f32) (x3 : Vec Ideal S1x960 .i32) (x9 : Vec Ideal S180x960x128 .fp8e4m3)

/-- The greatest contribution of the rows before `n`. -/
def supTo (n : ℕ) (q : Fin 192) (j : Fin 960) : EReal :=
  (Finset.univ.filter fun s : Fin 180 => s.val < n).sup fun s => yv v60 x2 x3 x9 s q j

theorem supTo_succ (s : Fin 180) (q : Fin 192) (j : Fin 960) :
    supTo v60 x2 x3 x9 (s.val + 1) q j = max (supTo v60 x2 x3 x9 s.val q j) (yv v60 x2 x3 x9 s q j) := by
  have e : (Finset.univ.filter fun t : Fin 180 => t.val < s.val + 1) = insert s (Finset.univ.filter fun t : Fin 180 => t.val < s.val) := by
    ext t
    simp only [Finset.mem_filter, Finset.mem_univ, true_and, Finset.mem_insert, Fin.ext_iff]
    omega
  rw [supTo, e, Finset.sup_insert, sup_comm]
  rfl

/-- One pair of rows: two more. -/
theorem pairMax_supTo (k : Fin k0_t1_loop.trips) (r : Fin 6) :
    pairMax v60 x2 x3 x9 k r (supTo v60 x2 x3 x9 (12 * k.val + 2 * r.val)) = supTo v60 x2 x3 x9 (12 * k.val + 2 * r.val + 2) := by
  funext q j
  refine Eq.trans ?_ (supTo_succ v60 x2 x3 x9 (rowB k r) q j).symm
  have h := supTo_succ v60 x2 x3 x9 (rowA k r) q j
  rw [show (rowB k r).val = (rowA k r).val + 1 from rfl, h, max_assoc]
  rfl

end

section
variable (c : Dev nD) (arg0 : Memref sig .tc .vmem S192x128 .fp8e4m3) (harg0 : arg0.IsWhole) (arg1 : Memref sig .tc .vmem S192x1 .f32) (harg1 : arg1.IsWhole) (arg2 : Memref sig .tc .vmem S180x960 .f32) (harg2 : arg2.IsWhole) (arg3 : Memref sig .tc .vmem S1x960 .i32) (harg3 : arg3.IsWhole) (arg4 : Memref sig .tc .vmem S6x1 .i32) (harg4 : arg4.IsWhole) (arg5 : Memref sig .tc .hbm S180x960x128 .fp8e4m3) (harg5 : arg5.IsWhole) (arg6 : Memref sig .tc .vmem S6x960 .f32) (harg6 : arg6.IsWhole) (arg7 : Memref sig .tc .vmem S6x1 .f32) (harg7 : arg7.IsWhole) (arg8 : Memref sig .tc .vmem S192x960 .f32) (harg8 : arg8.IsWhole) (arg9 : Memref sig .tc .vmem S180x960x128 .fp8e4m3) (harg9 : arg9.IsWhole) (arg10 : DmaSems sig S15) (v60 : Vec Ideal S192x128 .fp8e4m3)
    (x2 : Vec Ideal S180x960 .f32) (x3 : Vec Ideal S1x960 .i32) (x9 : Vec Ideal S180x960x128 .fp8e4m3)

/-- The four blocks of a pair cover the scratch. -/
theorem quad_cover (k : Fin k0_t1_loop.trips) (old : Old Ideal) (r : Fin 6) (tl : List (View.Piece (Elt Ideal) S192x960 .f32)) (y : S192x960.Idx) :
    ∃ p ∈ quad arg2 harg2 arg3 harg3 arg9 harg9 v60 x2 x3 x9 k old r tl, y ∈ p.1.set := by
  have h0 : (y 0).val < 192 := (y 0).isLt
  have h1 : (y 1).val < 960 := (y 1).isLt
  have key : ∀ (col w : ℕ) (inb), col ≤ (y 1).val → (y 1).val < col + w →
      y ∈ (Rect.unit (s := S192x960) ![0, col] (⟨2, ![192, w]⟩ : Shape).size inb).set := fun col w inb ha hb => by
    rw [Rect.mem_set_unit]
    intro a; fin_cases a
    · simpa using h0
    · exact ⟨ha, hb⟩
  by_cases ha : (y 1).val < 256
  · exact ⟨_, List.mem_cons_of_mem _ (List.mem_cons_of_mem _ (List.mem_cons_of_mem _ List.mem_cons_self)), key 0 256 inb_S192x960_S192x256_0_0 (by omega) (by omega)⟩
  by_cases hb : (y 1).val < 512
  · exact ⟨_, List.mem_cons_of_mem _ (List.mem_cons_of_mem _ List.mem_cons_self), key 256 256 inb_S192x960_S192x256_0_256 (by omega) (by omega)⟩
  by_cases hc : (y 1).val < 768
  · exact ⟨_, List.mem_cons_of_mem _ List.mem_cons_self, key 512 256 inb_S192x960_S192x256_0_512 (by omega) (by omega)⟩
  · exact ⟨_, List.mem_cons_self, key 768 192 inb_S192x960_S192x192_0_768 (by omega) (by omega)⟩

/-- The first pair reads the scratch as the trip found it. -/
theorem reads_first (x8 : Vec Ideal S192x960 .f32) :
    Reads arg8.view (harg8.unread x8) (fun _ r => arg8.view.readAt (Elt Ideal) r (harg8.unread x8)) [] (fun q j => (x8 (ix2 q j) : EReal)) := by
  intro L B i q j _ e _
  exact (congrFun (harg8.read_unread x8) (B.idx i)).trans (congrArg x8 e)

/-- The other pairs read the stores so far, which cover the scratch. -/
theorem reads_later (f : arg8.view.ty.Contents (Elt Ideal)) (tl : List (View.Piece (Elt Ideal) S192x960 .f32)) (X : Fin 192 → Fin 960 → EReal)
    (hc : ∀ y, ∃ p ∈ tl, y ∈ p.1.set) :
    Reads arg8.view f (fun tl r => arg8.view.readCov tl r) tl X := by
  intro L B i q j hL e h
  have h2 := View.readAt_writes_of_cover arg8.view f L B fun j => by
    obtain ⟨p, hp, hy⟩ := hc (B.idx j)
    exact ⟨p, hL.subset hp, hy⟩
  refine (congrFun h2 i).symm.trans (Eq.trans ?_ h)
  exact congrArg (arg8.view.read (Elt Ideal) (arg8.view.writes (Elt Ideal) f L)) e

/-- One more pair over stores that cover the scratch. -/
theorem quad_later (f : arg8.view.ty.Contents (Elt Ideal)) (tl : List (View.Piece (Elt Ideal) S192x960 .f32)) (k : Fin k0_t1_loop.trips) (r : Fin 6)
    (hc : ∀ y, ∃ p ∈ tl, y ∈ p.1.set)
    (hX : ∀ q j, (arg8.view.read (Elt Ideal) (arg8.view.writes (Elt Ideal) f tl) (ix2 q j) : EReal) = supTo v60 x2 x3 x9 (12 * k.val + 2 * r.val) q j)
    (q : Fin 192) (j : Fin 960) :
    (arg8.view.read (Elt Ideal) (arg8.view.writes (Elt Ideal) f
      (quad arg2 harg2 arg3 harg3 arg9 harg9 v60 x2 x3 x9 k (fun tl r => arg8.view.readCov tl r) r tl)) (ix2 q j) : EReal)
      = supTo v60 x2 x3 x9 (12 * k.val + 2 * r.val + 2) q j :=
  (quad_read arg2 harg2 arg3 harg3 arg9 harg9 (reads_later arg8 f tl _ hc) hX q j).trans
    (congrFun (congrFun (pairMax_supTo v60 x2 x3 x9 k r) q) j)

/-- A trip: twelve more rows. -/
theorem trip_read (f5 : Buf (Elt Ideal) (arg5.view.loc (c : Thread nD τ))) (k : Fin k0_t1_loop.trips) (x8 : Vec Ideal S192x960 .f32)
    (hX : ∀ q j, (x8 (ix2 q j) : EReal) = supTo v60 x2 x3 x9 (12 * k.val) q j) (q : Fin 192) (j : Fin 960) :
    (arg8.view.read (Elt Ideal) (arg8.view.writes (Elt Ideal) (harg8.unread x8)
      (trip c arg0 harg0 arg1 harg1 arg2 harg2 arg3 harg3 arg4 harg4 arg5 harg5 arg6 harg6 arg7 harg7 arg8 harg8 arg9 harg9 arg10 v60 x2 x3 x9 f5 k x8).1) (ix2 q j) : EReal) = supTo v60 x2 x3 x9 (12 * k.val + 12) q j := by
  have c0 := quad_cover arg2 harg2 arg3 harg3 arg9 harg9 v60 x2 x3 x9 k
  have e0 : ∀ q j, (arg8.view.read (Elt Ideal) (arg8.view.writes (Elt Ideal) (harg8.unread x8)
      (trip.sl.H8_4 arg2 harg2 arg3 harg3 arg8 harg8 arg9 harg9 v60 x2 x3 x9 k x8)) (ix2 q j) : EReal) = supTo v60 x2 x3 x9 (12 * k.val + 2) q j := by
    intro q j
    rw [list_0]
    have hR := reads_first arg8 harg8 x8
    rw [show (fun q j => (x8 (ix2 q j) : EReal)) = supTo v60 x2 x3 x9 (12 * k.val + 2 * (0 : Fin 6).val) from funext fun q => funext fun j => hX q j] at hR
    exact (quad_read arg2 harg2 arg3 harg3 arg9 harg9 hR (fun q j => (congrFun (harg8.read_unread x8) _).trans (hX q j)) q j).trans
      (congrFun (congrFun (pairMax_supTo v60 x2 x3 x9 k 0) q) j)
  have L := quad_later arg2 harg2 arg3 harg3 arg8 arg9 harg9 v60 x2 x3 x9 (harg8.unread x8)
  have e1 := fun q j => (congrArg (fun l => (arg8.view.read (Elt Ideal) (arg8.view.writes (Elt Ideal) (harg8.unread x8) l) (ix2 q j) : EReal)) (list_1 arg2 harg2 arg3 harg3 arg8 harg8 arg9 harg9 v60 x2 x3 x9 k x8)).trans (L _ k 1 (by rw [list_0]; exact c0 _ _ _) e0 q j)
  have e2 := fun q j => (congrArg (fun l => (arg8.view.read (Elt Ideal) (arg8.view.writes (Elt Ideal) (harg8.unread x8) l) (ix2 q j) : EReal)) (list_2 arg2 harg2 arg3 harg3 arg8 harg8 arg9 harg9 v60 x2 x3 x9 k x8)).trans (L _ k 2 (by rw [list_1]; exact c0 _ _ _) e1 q j)
  have e3 := fun q j => (congrArg (fun l => (arg8.view.read (Elt Ideal) (arg8.view.writes (Elt Ideal) (harg8.unread x8) l) (ix2 q j) : EReal)) (list_3 arg2 harg2 arg3 harg3 arg8 harg8 arg9 harg9 v60 x2 x3 x9 k x8)).trans (L _ k 3 (by rw [list_2]; exact c0 _ _ _) e2 q j)
  have e4 := fun q j => (congrArg (fun l => (arg8.view.read (Elt Ideal) (arg8.view.writes (Elt Ideal) (harg8.unread x8) l) (ix2 q j) : EReal)) (list_4 arg2 harg2 arg3 harg3 arg8 harg8 arg9 harg9 v60 x2 x3 x9 k x8)).trans (L _ k 4 (by rw [list_3]; exact c0 _ _ _) e3 q j)
  rw [list_5]
  exact L _ k 5 (by rw [list_4]; exact c0 _ _ _) e4 q j

/-- After `n` trips: the greatest contribution of the first `12 n` rows. -/
theorem T_read (f5 : Buf (Elt Ideal) (arg5.view.loc (c : Thread nD τ))) : ∀ (n : ℕ) (_ : n ≤ k0_t1_loop.trips) (q : Fin 192) (j : Fin 960),
    (T c arg0 harg0 arg1 harg1 arg2 harg2 arg3 harg3 arg4 harg4 arg5 harg5 arg6 harg6 arg7 harg7 arg8 harg8 arg9 harg9 arg10 v60 x2 x3 x9 f5 n (ix2 q j) : EReal) = supTo v60 x2 x3 x9 (12 * n) q j
  | 0, _, q, j => by
      have e : (Finset.univ.filter fun s : Fin 180 => s.val < 12 * 0) = ∅ := by simp
      rw [supTo, e, Finset.sup_empty]
      exact neg_inf
  | n + 1, hn, q, j => by
      rw [T, dif_pos (show n < k0_t1_loop.trips from hn)]
      exact trip_read c arg0 harg0 arg1 harg1 arg2 harg2 arg3 harg3 arg4 harg4 arg5 harg5 arg6 harg6 arg7 harg7 arg8 harg8 arg9 harg9 arg10 v60 x2 x3 x9 f5 ⟨n, hn⟩ _ (T_read f5 n (Nat.le_of_lt hn)) q j

/-- After the loop: the greatest contribution of all the rows. -/
theorem T_all (f5 : Buf (Elt Ideal) (arg5.view.loc (c : Thread nD τ))) (q : Fin 192) (j : Fin 960) :
    (T c arg0 harg0 arg1 harg1 arg2 harg2 arg3 harg3 arg4 harg4 arg5 harg5 arg6 harg6 arg7 harg7 arg8 harg8 arg9 harg9 arg10 v60 x2 x3 x9 f5 k0_t1_loop.trips (ix2 q j) : EReal) = Finset.univ.sup fun s => yv v60 x2 x3 x9 s q j := by
  refine (T_read c arg0 harg0 arg1 harg1 arg2 harg2 arg3 harg3 arg4 harg4 arg5 harg5 arg6 harg6 arg7 harg7 arg8 harg8 arg9 harg9 arg10 v60 x2 x3 x9 f5 _ le_rfl q j).trans ?_
  have e : (Finset.univ.filter fun s : Fin 180 => s.val < 12 * k0_t1_loop.trips) = Finset.univ :=
    Finset.filter_true_of_mem fun s _ => s.isLt
  rw [supTo, e]

end

end Cert.KernelIdeal.Hand
end
-- ==== Proof.Kern.Epilogue.lean ====
module

public import proofs.«01_k».proof.Proof.Kern.Base
public import proofs.«01_k».proof.Proof.Kern.Frame
public import proofs.«01_k».proof.Proof.Kern.LoopValue
public import proofs.«01_k».proof.Proof.MaxSim
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Cert.MaxSim

/-! What the kernel computes after its loop, read at an index: the token maxima, the scores and the loss. -/

variable (T : Vec Ideal S192x960 .f32) (x1 : Vec Ideal S192x1 .f32) (x4 : Vec Ideal S6x1 .i32)

/-- Row `b*32 + t` of the flattened queries. -/
abbrev row (b : Fin 6) (t : Fin 32) : Fin 192 := ⟨b.val * 32 + t.val, by omega⟩

/-- The scaled token maximum. -/
theorem tok_at (q : Fin 192) (j : Fin 960) : (k0_pay112 T x1 (ix2 q j) : EReal) = (T (ix2 q j) : EReal) * (x1 (ix2 q 0) : EReal) := by
  pointwise [k0_pay112]

/-- The score: the sum over the query's tokens. -/
theorem score_at (b : Fin 6) (j : Fin 960) :
    (k0_pay113 T x1 (ix2 b j) : EReal) = ∑ t : Fin 32, (T (ix2 (row b t) j) : EReal) * (x1 (ix2 (row b t) 0) : EReal) := by
  pointwise [k0_pay113, k0_pay112]

/-- The logarithm of the sum of exponentials of a row of scores. -/
theorem lse_at (b : Fin 6) : (k0_pay114 T x1 (ix2 b 0) : EReal) =
    Ideal.log (∑ x : Fin 960, Ideal.exp ((k0_pay113 T x1 (ix2 b x) : EReal) - guard fun x => (k0_pay113 T x1 (ix2 b x) : EReal)))
      + guard fun x => (k0_pay113 T x1 (ix2 b x) : EReal) := by
  rw [← guard_kernel, ← fold_sup]
  pointwise [k0_pay114]

/-- The loss, where the index word names a document. -/
theorem loss_at (b : Fin 6) (hp : (x4 (ix2 b 0) : BitVec 32).toNat < 960) :
    (lossOf T x1 x4 (ix2 b 0) : EReal) = loss (fun x => (k0_pay113 T x1 (ix2 b x) : EReal)) ⟨(x4 (ix2 b 0) : BitVec 32).toNat, hp⟩ := by
  have h := sum_onehot (fun x => (k0_pay113 T x1 (ix2 b x) : EReal)) hp
  unfold loss
  rw [← lse_at]
  refine Eq.trans ?_ (congrArg (fun z : EReal => (k0_pay114 T x1 (ix2 b 0) : EReal) - z) h)
  unfold lossOf
  pointwise [k0_pay1]

end Cert.KernelIdeal.Hand

end
-- ==== Proof.Kern.Result.lean ====
module

public import proofs.«01_k».proof.Proof.Kern.Epilogue
public import Idealize.ShloMosaic.Lib.StableHlo.ReadAt
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Cert.MaxSim

/-! What the kernel leaves in its three results, from its arguments as launched. -/

variable (m : (ℓ : Loc nD τ sig) → Buf (Elt Ideal) ℓ) (c : Dev nD)

/-! ## The operands the one launch reads -/

theorem V_q (q : Fin 192) (k : Fin 128) : (V m c main_v0 (ix2 q k) : EReal)
    = m ((c : Thread nD τ).loc main_arg0) (ix3 (⟨q.val / 32, by omega⟩ : Fin 6) (⟨q.val % 32, by omega⟩ : Fin 32) k) := by
  unfold V V0
  simp only [List.flatten_cons, List.flatten_nil, List.cons_append, List.nil_append, List.append_nil]
  after_reads_at

theorem V_qs (q : Fin 192) : (V m c main_v1 (ix2 q 0) : EReal)
    = m ((c : Thread nD τ).loc main_arg1) (ix2 (⟨q.val / 32, by omega⟩ : Fin 6) (⟨q.val % 32, by omega⟩ : Fin 32)) := by
  unfold V V0
  simp only [List.flatten_cons, List.flatten_nil, List.cons_append, List.nil_append, List.append_nil]
  after_reads_at

theorem V_d (s : Fin 180) (j : Fin 960) (k : Fin 128) : (V m c main_v2 (ix3 s j k) : EReal)
    = m ((c : Thread nD τ).loc main_arg2) (ix3 j s k) := by
  unfold V V0
  simp only [List.flatten_cons, List.flatten_nil, List.cons_append, List.nil_append, List.append_nil]
  after_reads_at

theorem V_ds (s : Fin 180) (j : Fin 960) : (V m c main_v3 (ix2 s j) : EReal) = m ((c : Thread nD τ).loc main_arg3) (ix2 j s) := by
  unfold V V0
  simp only [List.flatten_cons, List.flatten_nil, List.cons_append, List.nil_append, List.append_nil]
  after_reads_at

theorem V_len (j : Fin 960) : (V m c main_v4 (ix2 0 j) : BitVec 32) = m ((c : Thread nD τ).loc main_arg4) (ix1 j) := by
  unfold V V0
  simp only [List.flatten_cons, List.flatten_nil, List.cons_append, List.nil_append, List.append_nil]
  after_reads_at

theorem V_pos (b : Fin 6) : (V m c main_v5 (ix2 b 0) : BitVec 32) = m ((c : Thread nD τ).loc main_arg5) (ix1 b) := by
  unfold V V0
  simp only [List.flatten_cons, List.flatten_nil, List.cons_append, List.nil_append, List.append_nil]
  after_reads_at

/-- The launch has one point, whose blocks are the whole arrays. -/
theorem blk0 : iblk m c 0 t0_0 = V m c main_v0 := by
  have h : ∀ a, win0_0.index t0_0 a = 0 := by decide
  refine funext fun j => congrArg (V m c main_v0) (funext fun a => Fin.ext ?_ : (win0_0.blk t0_0).view.emb j = j)
  fin_cases a <;> blk_simp <;> rw [h] <;> omega
theorem blk1 : iblk m c 1 t0_0 = V m c main_v1 := by
  have h : ∀ a, win0_1.index t0_0 a = 0 := by decide
  refine funext fun j => congrArg (V m c main_v1) (funext fun a => Fin.ext ?_ : (win0_1.blk t0_0).view.emb j = j)
  fin_cases a <;> blk_simp <;> rw [h] <;> omega
theorem blk2 : iblk m c 2 t0_0 = V m c main_v3 := by
  have h : ∀ a, win0_2.index t0_0 a = 0 := by decide
  refine funext fun j => congrArg (V m c main_v3) (funext fun a => Fin.ext ?_ : (win0_2.blk t0_0).view.emb j = j)
  fin_cases a <;> blk_simp <;> rw [h] <;> omega
theorem blk3 : iblk m c 3 t0_0 = V m c main_v4 := by
  have h : ∀ a, win0_3.index t0_0 a = 0 := by decide
  refine funext fun j => congrArg (V m c main_v4) (funext fun a => Fin.ext ?_ : (win0_3.blk t0_0).view.emb j = j)
  fin_cases a <;> blk_simp <;> rw [h] <;> omega
theorem blk4 : iblk m c 4 t0_0 = V m c main_v5 := by
  have h : ∀ a, win0_4.index t0_0 a = 0 := by decide
  refine funext fun j => congrArg (V m c main_v5) (funext fun a => Fin.ext ?_ : (win0_4.blk t0_0).view.emb j = j)
  fin_cases a <;> blk_simp <;> rw [h] <;> omega

/-- The token maxima of the arguments as launched. -/
abbrev tokM (b : Fin 6) (j : Fin 960) (t : Fin 32) : EReal :=
  tokenMax (m ((c : Thread nD τ).loc main_arg0)) (m ((c : Thread nD τ).loc main_arg1)) (m ((c : Thread nD τ).loc main_arg2))
    (m ((c : Thread nD τ).loc main_arg3)) (m ((c : Thread nD τ).loc main_arg4)) b j t
abbrev scoreM (b : Fin 6) (j : Fin 960) : EReal := ∑ t, tokM m c b j t

theorem TT_at (q : Fin 192) (j : Fin 960) : (TTat m c t0_0 (ix2 q j) : EReal)
    = Finset.univ.sup fun s => yv (V m c main_v0) (V m c main_v3) (V m c main_v4) (V m c main_v2) s q j := by
  unfold TTat TT
  rw [blk0, blk2, blk3]
  exact T_all ..

variable (hq : ∀ (b : Fin 6) (t : Fin 32), (0 : EReal) < m ((c : Thread nD τ).loc main_arg1) (ix2 b t))

theorem row_div (b : Fin 6) (t : Fin 32) : (b.val * 32 + t.val) / 32 = b.val := by omega
theorem row_mod (b : Fin 6) (t : Fin 32) : (b.val * 32 + t.val) % 32 = t.val := by omega

theorem V_q_row (b : Fin 6) (t : Fin 32) (k : Fin 128) :
    (V m c main_v0 (ix2 (row b t) k) : EReal) = m ((c : Thread nD τ).loc main_arg0) (ix3 b t k) := by
  rw [V_q]
  simp only [row_div, row_mod]

theorem V_qs_row (b : Fin 6) (t : Fin 32) :
    (V m c main_v1 (ix2 (row b t) 0) : EReal) = m ((c : Thread nD τ).loc main_arg1) (ix2 b t) := by
  rw [V_qs]
  simp only [row_div, row_mod]

/-- The arguments and the launch's operands, as numbers. -/
abbrev aQ (i : S6x32x128.Idx) : EReal := m ((c : Thread nD τ).loc main_arg0) i
abbrev aD (i : S960x180x128.Idx) : EReal := m ((c : Thread nD τ).loc main_arg2) i
abbrev aDs (i : S960x180.Idx) : EReal := m ((c : Thread nD τ).loc main_arg3) i
abbrev vQ (i : S192x128.Idx) : EReal := V m c main_v0 i
abbrev vD (i : S180x960x128.Idx) : EReal := V m c main_v2 i

/-- A token's unscaled match, from the arguments as launched. -/
theorem yv_row (b : Fin 6) (t : Fin 32) (s : Fin 180) (j : Fin 960) :
    yv (V m c main_v0) (V m c main_v3) (V m c main_v4) (V m c main_v2) s (row b t) j
      = Scalar.select (IntOp.cmpi .sgt (m ((c : Thread nD τ).loc main_arg4) (ix1 j)) (BitVec.ofNat 32 s.val))
        ((∑ k : Fin 128, aQ m c (ix3 b t k) * aD m c (ix3 j s k)) * aDs m c (ix2 j s)) (⊥ : EReal) := by
  have h : (∑ k : Fin 128, vQ m c (ix2 (row b t) k) * vD m c (ix3 s j k)) = ∑ k : Fin 128, aQ m c (ix3 b t k) * aD m c (ix3 j s k) :=
    Finset.sum_congr rfl fun k _ => congrArg₂ (fun x y : EReal => x * y) (V_q_row m c b t k) (V_d m c s j k)
  have h' := congrArg₂ (fun x y : EReal => x * y) h (V_ds m c s j)
  exact congrArg₂ (fun (w : BitVec 32) (x : EReal) => Scalar.select (IntOp.cmpi .sgt w (BitVec.ofNat 32 s.val)) x (⊥ : EReal)) (V_len m c j) h'

include hq in
/-- The scaled maximum of a token's row is that token's maximum. -/
theorem tok_row (b : Fin 6) (j : Fin 960) (t : Fin 32) :
    (TTat m c t0_0 (ix2 (row b t) j) : EReal) * (iblk m c 1 t0_0 (ix2 (row b t) 0) : EReal) = tokM m c b j t := by
  have e := (TT_at m c (row b t) j).trans (Finset.sup_congr rfl fun s _ => yv_row m c b t s j)
  have e1 : (iblk m c 1 t0_0 (ix2 (row b t) 0) : EReal) = m ((c : Thread nD τ).loc main_arg1) (ix2 b t) :=
    (congrFun (blk1 m c) _).trans (V_qs_row m c b t)
  refine (congrArg₂ (fun x y : EReal => x * y) e e1).trans ?_
  exact best_of_scaled_last (fun k => m ((c : Thread nD τ).loc main_arg0) (ix3 b t k)) (hq b t)
    (fun s k => m ((c : Thread nD τ).loc main_arg2) (ix3 j s k)) (fun s => m ((c : Thread nD τ).loc main_arg3) (ix2 j s))
    (m ((c : Thread nD τ).loc main_arg4) (ix1 j))

/-! ## The three arrays the launch writes -/

theorem arr_score : (dats m 0 c).arrAt 5 cfg0.N = (k0_pay113 (TTat m c t0_0) (iblk m c 1 t0_0) : S6x960.Idx → EReal) := by
  refine (dats m 0 c).arrAt_eq_of_after_last 5 t0_0 (by decide +kernel) _ fun j => ?_
  blk_simp
  rw [after0_5]

theorem arr_loss : (dats m 0 c).arrAt 6 cfg0.N = (lossOf (TTat m c t0_0) (iblk m c 1 t0_0) (iblk m c 4 t0_0) : S6x1.Idx → EReal) := by
  refine (dats m 0 c).arrAt_eq_of_after_last 6 t0_0 (by decide +kernel) _ fun j => ?_
  blk_simp
  rw [after0_6]

theorem arr_tok : (dats m 0 c).arrAt 7 cfg0.N = (k0_pay112 (TTat m c t0_0) (iblk m c 1 t0_0) : S192x960.Idx → EReal) := by
  refine (dats m 0 c).arrAt_eq_of_after_last 7 t0_0 (by decide +kernel) _ fun j => ?_
  blk_simp
  rw [after0_7]

include hq in
theorem score_row (b : Fin 6) (j : Fin 960) : (k0_pay113 (TTat m c t0_0) (iblk m c 1 t0_0) (ix2 b j) : EReal) = scoreM m c b j := by
  rw [score_at]
  exact Finset.sum_congr rfl fun t _ => tok_row m c hq b j t

/-! ## The results -/

/-- What the host lines after the launch start from, and what they leave. -/
abbrev W0 : Valuation τ sig (Elt Ideal) := Pipeline.withArrays spec0 c (V0 m c) fun w => (dats m 0 c).arrAt w cfg0.N
abbrev endW (b : Ref sig .tc) : Buf (Elt Ideal) ((c.tc : Thread nD τ).loc b) :=
  Pipeline.afterTail₀ cfgs (dats m) 0 (V0 m) [hostOps1] c b

theorem W0_loss : W0 m c (Proc.tc.devRef main_v6_1) = (lossOf (TTat m c t0_0) (iblk m c 1 t0_0) (iblk m c 4 t0_0) : S6x1.Idx → EReal) :=
  (Pipeline.withArrays_arr spec0 (by decide) c (V0 m c) (fun w => (dats m 0 c).arrAt w cfg0.N) 6).trans (arr_loss m c)
theorem W0_tok : W0 m c (Proc.tc.devRef main_v6_2) = (k0_pay112 (TTat m c t0_0) (iblk m c 1 t0_0) : S192x960.Idx → EReal) :=
  (Pipeline.withArrays_arr spec0 (by decide) c (V0 m c) (fun w => (dats m 0 c).arrAt w cfg0.N) 7).trans (arr_tok m c)

theorem v8_at (W : Valuation τ sig (Elt Ideal)) (b : Fin 6) (j : Fin 960) (t : Fin 32) :
    (StableHlo.after [hostOps1].flatten W (Proc.devRef .tc main_v8) (ix3 b j t) : EReal) = W (Proc.tc.devRef main_v6_2) (ix2 (row b t) j) := by
  simp only [List.flatten_cons, List.flatten_nil, List.cons_append, List.nil_append, List.append_nil]
  after_reads_at

theorem v9_at (W : Valuation τ sig (Elt Ideal)) (b : Fin 6) :
    (StableHlo.after [hostOps1].flatten W (Proc.devRef .tc main_v9) (ix1 b) : EReal) = W (Proc.tc.devRef main_v6_1) (ix2 b 0) := by
  simp only [List.flatten_cons, List.flatten_nil, List.cons_append, List.nil_append, List.append_nil]
  after_reads_at

include hq in
theorem end_tok (b : Fin 6) (j : Fin 960) (t : Fin 32) : (endW m c main_v8 (ix3 b j t) : EReal) = tokM m c b j t := by
  refine (v8_at (W0 m c) b j t).trans ?_
  rw [W0_tok, tok_at]
  exact tok_row m c hq b j t

include hq in
theorem end_loss (b : Fin 6) (hp : (m ((c : Thread nD τ).loc main_arg5) (ix1 b) : BitVec 32).toNat < 960) :
    (endW m c main_v9 (ix1 b) : EReal) = loss (scoreM m c b) ⟨(m ((c : Thread nD τ).loc main_arg5) (ix1 b) : BitVec 32).toNat, hp⟩ := by
  have e : (iblk m c 4 t0_0 (ix2 b 0) : BitVec 32) = m ((c : Thread nD τ).loc main_arg5) (ix1 b) := by
    rw [blk4, V_pos]
  have es : (fun j => (k0_pay113 (TTat m c t0_0) (iblk m c 1 t0_0) (ix2 b j) : EReal)) = scoreM m c b :=
    funext fun j => score_row m c hq b j
  refine (v9_at (W0 m c) b).trans ?_
  rw [W0_loss, loss_at _ _ _ b (by rw [e]; exact hp), es]
  exact congrArg _ (Fin.ext (congrArg BitVec.toNat e))

end Cert.KernelIdeal.Hand

end
-- ==== Proof.Ref.Value.lean ====
module

public import proofs.«01_k».proof.Proof.Gen.ReferenceIdeal.Frame
public import proofs.«01_k».proof.Proof.MaxSim
public import Idealize.ShloMosaic.Lib.Pointwise
public import Idealize.ShloMosaic.Lib.StableHlo.ReadAt

@[expose] public section

set_option maxRecDepth 16384

noncomputable section

/-! What the reference's operations after its one kernel compute, read at an index. -/

namespace Cert.ReferenceIdeal.Hand

open Cert.ReferenceIdeal Cert.ReferenceIdeal.Gen Cert.MaxSim
open Idealize.ShloMosaic Idealize.ShloMosaic.TcCoe Idealize.ShloMosaic.Tactic

variable (W : Valuation τ sig (Elt Ideal))

/-- The operations up to the scores, and those from the scores to the loss. -/
abbrev scoreOps : List (HloOp τ sig (Elt Ideal)) := List.flatten [hostOps1, hostOps1_1, hostOps1_2]
abbrev lossOps : List (HloOp τ sig (Elt Ideal)) := List.flatten [hostOps1_3, hostOps1_4, hostOps1_5, hostOps1_6]

/-- The token maximum over the contents `W`. -/
abbrev tokW (b : Fin 6) (j : Fin 960) (t : Fin 32) : EReal :=
  tokenMax (W (Proc.tc.devRef main_v0_0)) (W (Proc.tc.devRef main_arg1)) (W (Proc.tc.devRef main_v0_1)) (W (Proc.tc.devRef main_arg3))
    (W (Proc.tc.devRef main_arg4)) b j t

theorem bot_const : (id (constant (F := Ideal) S_ .f32 0xFF800000#32) ix0 : EReal) = ⊥ := by
  show Ideal.ofBits .f32 0xFF800000#32 = (⊥ : EReal)
  simp [Ideal.ofBits, Ideal.ieee]

/-- Row `b*32 + t` of the flattened queries is token `t` of query `b`. -/
theorem row_div (b : Fin 6) (t : Fin 32) : (b.val * 32 + t.val) / 32 = b.val := by omega
theorem row_mod (b : Fin 6) (t : Fin 32) : (b.val * 32 + t.val) % 32 = t.val := by omega

theorem v20_at (b : Fin 6) (j : Fin 960) (t : Fin 32) :
    (StableHlo.after scoreOps W (Proc.devRef .tc main_v20) (ix3 b j t) : EReal) = tokW W b j t := by
  unfold scoreOps
  simp only [List.flatten_cons, List.flatten_nil, List.cons_append, List.nil_append]
  after_reads_at
  simp only [row_div, row_mod, bot_const]
  exact fold_sup _

theorem v21_at (b : Fin 6) (j : Fin 960) :
    (StableHlo.after scoreOps W (Proc.devRef .tc main_v21) (ix2 b j) : EReal) = ∑ t, tokW W b j t := by
  unfold scoreOps
  simp only [List.flatten_cons, List.flatten_nil, List.cons_append, List.nil_append]
  after_reads_at
  simp only [row_div, row_mod, bot_const]
  exact Finset.sum_congr rfl fun t _ => fold_sup _

theorem v22_at (b : Fin 6) :
    (StableHlo.after scoreOps W (Proc.devRef .tc main_v22) (ix2 b 0) : BitVec 32) = W (Proc.tc.devRef main_arg5) (ix1 b) := by
  unfold scoreOps
  simp only [List.flatten_cons, List.flatten_nil, List.cons_append, List.nil_append]
  after_reads_at

/-- The reference's gather reads row `b` of the scores at the row's index word, clamped to the row. -/
theorem gather_row {α : Type} (x : S6x960.Idx → α) (idx : IVec S6x1x1 32) (b : Fin 6) :
    Host.gather gather_S6x960_S6x1x1_S6x1_n_1_0_0_1_2_11 x idx (ix2 b 0)
      = x (ix2 b ⟨min (idx (ix3 b 0 0)).toInt.toNat 959, by omega⟩) := by
  unfold Host.gather
  refine congrArg x (funext fun a => Fin.ext ?_)
  have hc : ∀ (k : Fin 3) (hk), k.val < 2 → (gather_S6x960_S6x1x1_S6x1_n_1_0_0_1_2_11.siCoord (ix2 b 0) k hk).val = if k.val = 0 then b.val else 0 := by
    intro k hk h
    unfold GatherDims.siCoord
    fin_cases k
    · rfl
    · rfl
    · exact absurd h (by decide)
  fin_cases a
  · show gather_S6x960_S6x1x1_S6x1_n_1_0_0_1_2_11.start _ idx 0 + gather_S6x960_S6x1x1_S6x1_n_1_0_0_1_2_11.batchCoord _ 0 + gather_S6x960_S6x1x1_S6x1_n_1_0_0_1_2_11.offCoord _ 0 = b.val
    rw [GatherDims.offCoord_eq_zero _ _ _ (by decide), GatherDims.start, dif_neg (by decide), GatherDims.batchCoord, dif_pos (by decide), hc _ _ (by decide)]
    rw [if_pos (by decide), Nat.zero_add, Nat.add_zero]
  · show gather_S6x960_S6x1x1_S6x1_n_1_0_0_1_2_11.start _ idx 1 + gather_S6x960_S6x1x1_S6x1_n_1_0_0_1_2_11.batchCoord _ 1 + gather_S6x960_S6x1x1_S6x1_n_1_0_0_1_2_11.offCoord _ 1 = _
    rw [GatherDims.offCoord_eq_zero _ _ _ (by decide), GatherDims.batchCoord_eq_zero _ _ _ (by decide), GatherDims.start, dif_pos (by decide)]
    simp only [Nat.add_zero]
    refine congrArg (fun i => min (idx i).toInt.toNat 959) (funext fun e => Fin.ext ?_)
    fin_cases e
    · unfold GatherDims.siIdx
      rw [dif_neg (by decide), hc _ _ (by decide)]
      rfl
    · unfold GatherDims.siIdx
      rw [dif_neg (by decide), hc _ _ (by decide)]
      rfl
    · unfold GatherDims.siIdx
      rw [dif_pos (by decide)]
      rfl

/-- An index word that names a document is not clamped. -/
theorem gather_doc {α : Type} (x : S6x960.Idx → α) (idx : IVec S6x1x1 32) (b : Fin 6) {p : BitVec 32} (hp : p.toNat < 960)
    (h : idx (ix3 b 0 0) = p) :
    Host.gather gather_S6x960_S6x1x1_S6x1_n_1_0_0_1_2_11 x idx (ix2 b 0) = x (ix2 b ⟨p.toNat, hp⟩) := by
  rw [gather_row]
  refine congrArg (fun k => x (ix2 b k)) (Fin.ext ?_)
  show min (idx (ix3 b 0 0)).toInt.toNat 959 = p.toNat
  rw [h, word_toInt hp]
  omega

theorem fold_andi_const {n : ℕ} : Finset.fold IntOp.andi 1#1 (fun _ : Fin n => (1#1 : BitVec 1)) Finset.univ = 1#1 := by
  induction (Finset.univ : Finset (Fin n)) using Finset.induction with
  | empty => rfl
  | insert a s ha ih => rw [Finset.fold_insert ha, ih]; rfl

/-- The loss over the scores and the index words in `W`. -/
theorem v37_at (b : Fin 6) (hp : (W (Proc.tc.devRef main_v22) (ix2 b 0) : BitVec 32).toNat < 960) :
    (StableHlo.after lossOps W (Proc.devRef .tc main_v37) (ix1 b) : EReal)
      = loss (fun x => W (Proc.tc.devRef main_v21) (ix2 b x)) ⟨(W (Proc.tc.devRef main_v22) (ix2 b 0) : BitVec 32).toNat, hp⟩ := by
  have hz : (id (constant (F := Ideal) S_ .f32 0#32) ix0 : EReal) = 0 := Ideal.ofBits_zero_f32
  have hs : Scalar.select (IntOp.cmpi .slt (W (Proc.tc.devRef main_v22) (ix2 b 0)) 0#32) (IntOp.addi (W (Proc.tc.devRef main_v22) (ix2 b 0)) 960#32)
      (W (Proc.tc.devRef main_v22) (ix2 b 0)) = (W (Proc.tc.devRef main_v22) (ix2 b 0) : BitVec 32) := by
    rw [word_slt hp]; rfl
  unfold lossOps
  simp only [List.flatten_cons, List.flatten_nil, List.cons_append, List.nil_append]
  after_reads_at
  rw [gather_doc _ _ b hp hs]
  simp only [hs, word_sge hp, word_sle hp]
  rw [fold_sup, hz, guard_reference]
  have hf : Finset.fold IntOp.andi 1#1 (fun _ : Fin 1 => IntOp.andi 1#1 (1#1 : BitVec 1)) Finset.univ = 1#1 := fold_andi_const
  rw [hf]
  rfl

end Cert.ReferenceIdeal.Hand

end
-- ==== Proof.Ref.Result.lean ====
module

public import proofs.«01_k».proof.Proof.Ref.Value
public import Idealize.ShloMosaic.Lib.Pipeline.ValueKit

@[expose] public section

set_option maxRecDepth 16384

noncomputable section

/-! What the reference leaves in its three results, from its arguments as launched. -/

namespace Cert.ReferenceIdeal.Hand

open Cert.ReferenceIdeal Cert.ReferenceIdeal.Gen Cert.MaxSim
open Idealize.ShloMosaic Idealize.ShloMosaic.TcCoe Idealize.ShloMosaic.Tactic

variable (m : (ℓ : Loc nD τ sig) → Buf (Elt Ideal) ℓ) (c : Dev nD)

theorem loss_keeps (W : Valuation τ sig (Elt Ideal)) (b : Fin 6) (j : Fin 960) :
    (StableHlo.after lossOps W (Proc.devRef .tc main_v21) (ix2 b j) : EReal) = W (Proc.tc.devRef main_v21) (ix2 b j) := by
  unfold lossOps
  simp only [List.flatten_cons, List.flatten_nil, List.cons_append, List.nil_append]
  after_reads_at

theorem loss_keeps20 (W : Valuation τ sig (Elt Ideal)) (b : Fin 6) (j : Fin 960) (t : Fin 32) :
    (StableHlo.after lossOps W (Proc.devRef .tc main_v20) (ix3 b j t) : EReal) = W (Proc.tc.devRef main_v20) (ix3 b j t) := by
  unfold lossOps
  simp only [List.flatten_cons, List.flatten_nil, List.cons_append, List.nil_append]
  after_reads_at

/-- The reference's kernel has one point, whose blocks are the whole arrays. -/
theorem blk_q (j : S6x32x128.Idx) : (win0_0.blk t0_0).view.emb j = j := by
  have h : ∀ a, win0_0.index t0_0 a = 0 := by decide
  refine funext fun a => Fin.ext ?_
  fin_cases a <;> blk_simp <;> rw [h] <;> omega

theorem blk_d (j : S960x180x128.Idx) : (win0_1.blk t0_0).view.emb j = j := by
  have h : ∀ a, win0_1.index t0_0 a = 0 := by decide
  refine funext fun a => Fin.ext ?_
  fin_cases a <;> blk_simp <;> rw [h] <;> omega

/-- The two arrays the reference's kernel writes hold the codes themselves. -/
theorem arr_q : (dats m 0 c).arrAt 2 cfg0.N = (fun i => m ((c : Thread nD τ).loc main_arg0) i : S6x32x128.Idx → EReal) := by
  refine (dats m 0 c).arrAt_eq_of_after_last 2 t0_0 (by decide +kernel) _ fun j => ?_
  blk_simp
  rw [after0_2]
  frame_out
  exact congrArg (m ((c : Thread nD τ).loc main_arg0)) (blk_q j)

theorem arr_d : (dats m 0 c).arrAt 3 cfg0.N = (fun i => m ((c : Thread nD τ).loc main_arg2) i : S960x180x128.Idx → EReal) := by
  refine (dats m 0 c).arrAt_eq_of_after_last 3 t0_0 (by decide +kernel) _ fun j => ?_
  blk_simp
  rw [after0_3]
  frame_out
  exact congrArg (m ((c : Thread nD τ).loc main_arg2)) (blk_d j)

/-- What the host lines after the kernel start from. -/
abbrev W0 : Valuation τ sig (Elt Ideal) := Pipeline.withArrays spec0 c (V0 m c) fun w => (dats m 0 c).arrAt w cfg0.N

theorem W0_q : W0 m c (Proc.tc.devRef main_v0_0) = (fun i => m ((c : Thread nD τ).loc main_arg0) i : S6x32x128.Idx → EReal) :=
  (Pipeline.withArrays_arr spec0 (by decide) c (V0 m c) (fun w => (dats m 0 c).arrAt w cfg0.N) 2).trans (arr_q m c)
theorem W0_d : W0 m c (Proc.tc.devRef main_v0_1) = (fun i => m ((c : Thread nD τ).loc main_arg2) i : S960x180x128.Idx → EReal) :=
  (Pipeline.withArrays_arr spec0 (by decide) c (V0 m c) (fun w => (dats m 0 c).arrAt w cfg0.N) 3).trans (arr_d m c)
theorem W0_qs : W0 m c (Proc.tc.devRef main_arg1) = m ((c : Thread nD τ).loc main_arg1) :=
  (Pipeline.withArrays_of_ne spec0 c (V0 m c) _ main_arg1 (by decide)).trans (V_main_arg1 m c)
theorem W0_ds : W0 m c (Proc.tc.devRef main_arg3) = m ((c : Thread nD τ).loc main_arg3) :=
  (Pipeline.withArrays_of_ne spec0 c (V0 m c) _ main_arg3 (by decide)).trans (V_main_arg3 m c)
theorem W0_len : W0 m c (Proc.tc.devRef main_arg4) = m ((c : Thread nD τ).loc main_arg4) :=
  (Pipeline.withArrays_of_ne spec0 c (V0 m c) _ main_arg4 (by decide)).trans (V_main_arg4 m c)
theorem W0_pos : W0 m c (Proc.tc.devRef main_arg5) = m ((c : Thread nD τ).loc main_arg5) :=
  (Pipeline.withArrays_of_ne spec0 c (V0 m c) _ main_arg5 (by decide)).trans (V_main_arg5 m c)

/-- The token maxima, the scores and the loss of the arguments as launched. -/
abbrev tokM (b : Fin 6) (j : Fin 960) (t : Fin 32) : EReal :=
  tokenMax (m ((c : Thread nD τ).loc main_arg0)) (m ((c : Thread nD τ).loc main_arg1)) (m ((c : Thread nD τ).loc main_arg2))
    (m ((c : Thread nD τ).loc main_arg3)) (m ((c : Thread nD τ).loc main_arg4)) b j t

abbrev scoreM (b : Fin 6) (j : Fin 960) : EReal := ∑ t, tokM m c b j t

theorem tokW0 (b : Fin 6) (j : Fin 960) (t : Fin 32) : tokW (W0 m c) b j t = tokM m c b j t := by
  unfold tokW
  rw [W0_q, W0_d, W0_qs, W0_ds, W0_len]

theorem sum_tokW0 (b : Fin 6) (j : Fin 960) : (∑ t, tokW (W0 m c) b j t : EReal) = scoreM m c b j :=
  Finset.sum_congr rfl fun t _ => tokW0 m c b j t

theorem after_two {A B : List (HloOp τ sig (Elt Ideal))} (W : Valuation τ sig (Elt Ideal)) :
    StableHlo.after (A ++ B) W = StableHlo.after B (StableHlo.after A W) := by
  induction A generalizing W with
  | nil => rfl
  | cons op l ih => exact ih _

abbrev endW (b : Ref sig .tc) : Buf (Elt Ideal) ((c.tc : Thread nD τ).loc b) :=
  Pipeline.afterTail₀ cfgs (dats m) 0 (V0 m) [hostOps1, hostOps1_1, hostOps1_2, hostOps1_3, hostOps1_4, hostOps1_5, hostOps1_6] c b

theorem endW_eq (b : Ref sig .tc) : endW m c b = StableHlo.after lossOps (StableHlo.after scoreOps (W0 m c)) (Proc.devRef .tc b) := by
  rw [← after_two]; rfl

theorem end_tok (b : Fin 6) (j : Fin 960) (t : Fin 32) : (endW m c main_v20 (ix3 b j t) : EReal) = tokM m c b j t := by
  rw [endW_eq, loss_keeps20, v20_at, tokW0]

theorem end_score (b : Fin 6) (j : Fin 960) : (endW m c main_v21 (ix2 b j) : EReal) = scoreM m c b j := by
  rw [endW_eq, loss_keeps, v21_at]
  exact sum_tokW0 m c b j

theorem end_loss (b : Fin 6) (hp : (m ((c : Thread nD τ).loc main_arg5) (ix1 b) : BitVec 32).toNat < 960) :
    (endW m c main_v37 (ix1 b) : EReal) = loss (scoreM m c b) ⟨(m ((c : Thread nD τ).loc main_arg5) (ix1 b) : BitVec 32).toNat, hp⟩ := by
  have e : (StableHlo.after scoreOps (W0 m c) (Proc.devRef .tc main_v22) (ix2 b 0) : BitVec 32) = m ((c : Thread nD τ).loc main_arg5) (ix1 b) := by
    rw [v22_at, W0_pos]
  have es : (fun j => (StableHlo.after scoreOps (W0 m c) (Proc.devRef .tc main_v21) (ix2 b j) : EReal)) = scoreM m c b :=
    funext fun j => (v21_at (W0 m c) b j).trans (sum_tokW0 m c b j)
  rw [endW_eq, v37_at _ b (by rw [e]; exact hp), es]
  exact congrArg _ (Fin.ext (congrArg BitVec.toNat e))

/-- The arguments end as launched. -/
theorem args_kept {r : PUnit × MemSt nD τ sig (Elt Ideal)}
    (h : Pipeline.FramePost cfgs (dats m) 0 (Pipeline.afterTail₀ cfgs (dats m) 0 (V0 m) [hostOps1, hostOps1_1, hostOps1_2, hostOps1_3, hostOps1_4, hostOps1_5, hostOps1_6]) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c),
    ((h c).1 1).trans (((dats m 0 c).arrAt_in 1 rfl _).trans ((A_eq m c 1).trans (V_main_arg2 m c))),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c)⟩

end Cert.ReferenceIdeal.Hand

end
-- ==== Proof.Algebraic.lean ====
module

public import proofs.«01_k».proof.Defs
public import proofs.«01_k».proof.Proof.Kern.Result
public import proofs.«01_k».proof.Proof.Ref.Result
public import proofs.«01_k».proof.Proof.Pre

@[expose] public section

set_option maxRecDepth 16384

noncomputable section

/-! The kernel and the reference, run from the same arguments, leave the same three results. -/

namespace Cert.T1

open Idealize.ShloMosaic Idealize.ShloMosaic.TcCoe Idealize.ShloMosaic.Tactic Idealize.SL.Sem
open Cert.MaxSim

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

/-- The two memories hold the same arguments on core `c`. -/
structure Agree (c : Dev KernelIdeal.nD) : Prop where
  h0 : m' ((c.tc : Thread ReferenceIdeal.nD ReferenceIdeal.τ).loc ReferenceIdeal.main_arg0) = m ((c.tc : Thread KernelIdeal.nD KernelIdeal.τ).loc KernelIdeal.main_arg0)
  h1 : m' ((c.tc : Thread ReferenceIdeal.nD ReferenceIdeal.τ).loc ReferenceIdeal.main_arg1) = m ((c.tc : Thread KernelIdeal.nD KernelIdeal.τ).loc KernelIdeal.main_arg1)
  h2 : m' ((c.tc : Thread ReferenceIdeal.nD ReferenceIdeal.τ).loc ReferenceIdeal.main_arg2) = m ((c.tc : Thread KernelIdeal.nD KernelIdeal.τ).loc KernelIdeal.main_arg2)
  h3 : m' ((c.tc : Thread ReferenceIdeal.nD ReferenceIdeal.τ).loc ReferenceIdeal.main_arg3) = m ((c.tc : Thread KernelIdeal.nD KernelIdeal.τ).loc KernelIdeal.main_arg3)
  h4 : m' ((c.tc : Thread ReferenceIdeal.nD ReferenceIdeal.τ).loc ReferenceIdeal.main_arg4) = m ((c.tc : Thread KernelIdeal.nD KernelIdeal.τ).loc KernelIdeal.main_arg4)
  h5 : m' ((c.tc : Thread ReferenceIdeal.nD ReferenceIdeal.τ).loc ReferenceIdeal.main_arg5) = m ((c.tc : Thread KernelIdeal.nD KernelIdeal.τ).loc KernelIdeal.main_arg5)

variable {m m'} {c : Dev KernelIdeal.nD}

theorem tok_same (h : Agree m m' c) (b : Fin 6) (j : Fin 960) (t : Fin 32) :
    ReferenceIdeal.Hand.tokM m' c b j t = KernelIdeal.Hand.tokM m c b j t := by
  unfold ReferenceIdeal.Hand.tokM KernelIdeal.Hand.tokM
  rw [h.h0, h.h1, h.h2, h.h3, h.h4]

theorem score_same (h : Agree m m' c) (b : Fin 6) : ReferenceIdeal.Hand.scoreM m' c b = KernelIdeal.Hand.scoreM m c b :=
  funext fun j => Finset.sum_congr rfl fun t _ => tok_same h b j t

variable (hq : ∀ (b : Fin 6) (t : Fin 32), (0 : EReal) < m ((c.tc : Thread KernelIdeal.nD KernelIdeal.τ).loc KernelIdeal.main_arg1) (ix2 b t))
  (hp : ∀ b : Fin 6, (m ((c.tc : Thread KernelIdeal.nD KernelIdeal.τ).loc KernelIdeal.main_arg5) (ix1 b) : BitVec 32).toNat < 960)

include hq in
/-- The scores agree. -/
theorem scores_agree (h : Agree m m' c) :
    ReferenceIdeal.Hand.endW m' c ReferenceIdeal.main_v21 = (KernelIdeal.Hand.dats m 0 c).arrAt 5 KernelIdeal.cfg0.N := by
  rw [KernelIdeal.Hand.arr_score]
  funext i
  rw [eq_ix2 i]
  exact (ReferenceIdeal.Hand.end_score m' c _ _).trans ((congrFun (score_same h _) _).trans (KernelIdeal.Hand.score_row m c hq _ _).symm)

include hq in
/-- The token maxima agree. -/
theorem toks_agree (h : Agree m m' c) :
    ReferenceIdeal.Hand.endW m' c ReferenceIdeal.main_v20 = KernelIdeal.Hand.endW m c KernelIdeal.main_v8 := by
  funext i
  rw [eq_ix3 i]
  exact (ReferenceIdeal.Hand.end_tok m' c _ _ _).trans ((tok_same h _ _ _).trans (KernelIdeal.Hand.end_tok m c hq _ _ _).symm)

include hq hp in
/-- The losses agree. -/
theorem losses_agree (h : Agree m m' c) :
    ReferenceIdeal.Hand.endW m' c ReferenceIdeal.main_v37 = KernelIdeal.Hand.endW m c KernelIdeal.main_v9 := by
  funext i
  rw [eq_ix1 i]
  have e : (m' ((c.tc : Thread ReferenceIdeal.nD ReferenceIdeal.τ).loc ReferenceIdeal.main_arg5) (ix1 (i 0)) : BitVec 32)
      = m ((c.tc : Thread KernelIdeal.nD KernelIdeal.τ).loc KernelIdeal.main_arg5) (ix1 (i 0)) := congrFun h.h5 _
  refine (ReferenceIdeal.Hand.end_loss m' c _ (by rw [e]; exact hp _)).trans (Eq.trans ?_ (KernelIdeal.Hand.end_loss m c hq _ (hp _)).symm)
  exact congrArg₂ loss (score_same h _) (Fin.ext (congrArg BitVec.toNat e))

theorem algebraic : @algebraic_KernelIdeal_ReferenceIdeal_pre_pre KernelIdeal.Gen.facts ReferenceIdeal.Gen.facts Pre_pre.facts := by
  letI := Pre_pre.facts
  intro m g m' g' hpre hag
  have hA : ∀ c, Agree m m' c := fun c => by
    obtain ⟨h0, h1, h2, h3, h4, h5⟩ := hag c
    exact ⟨h0, h1, h2, h3, h4, h5⟩
  have hq := fun c => Pre_pre.scale_pos _ _ _ _ _ _ (hpre c)
  have hp := fun c => Pre_pre.doc_lt _ _ _ _ _ _ (hpre c)
  refine ⟨fun c => (KernelIdeal.Hand.dats m 0 c).arrAt 5 KernelIdeal.cfg0.N, fun c => KernelIdeal.Hand.endW m c KernelIdeal.main_v9,
    fun c => KernelIdeal.Hand.endW m c KernelIdeal.main_v8, ?_, ?_⟩
  · refine (θ_run _ _ _).mono (fun r h c => ?_) (KernelIdeal.Hand.run_main m g)
    exact ⟨(h.1 c).1 5, (h.1 c).2 KernelIdeal.main_v9 (Pipeline.mem_restRefs_of _ (by decide) (by decide)),
      (h.1 c).2 KernelIdeal.main_v8 (Pipeline.mem_restRefs_of _ (by decide) (by decide)), KernelIdeal.Hand.args_kept m c h.1⟩
  · refine (θ_run _ _ _).mono (fun r h c => ?_) (ReferenceIdeal.Gen.run_main m' g')
    exact ⟨((h c).2 ReferenceIdeal.main_v21 (Pipeline.mem_restRefs_of _ (by decide) (by decide))).trans (scores_agree (hq c) (hA c)),
      ((h c).2 ReferenceIdeal.main_v37 (Pipeline.mem_restRefs_of _ (by decide) (by decide))).trans (losses_agree (hq c) (hp c) (hA c)),
      ((h c).2 ReferenceIdeal.main_v20 (Pipeline.mem_restRefs_of _ (by decide) (by decide))).trans (toks_agree (hq c) (hA c)),
      ReferenceIdeal.Hand.args_kept m' c h⟩

end Cert.T1

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.SameProgram
public import proofs.«01_k».proof.Proof.Kern.Frame
public import proofs.«01_k».proof.Proof.Pre
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_pre.facts,
  Cert.T0.frame_of_ideal fun m g => Cert.KernelIdeal.Hand.frame m g,
  fun m ρ _ => Cert.KernelIdeal.Hand.frame m ρ,
  fun m ρ _ => Cert.KernelIdeal.Hand.frame m ρ,
  fun m ρ _ => Cert.ReferenceIdeal.Gen.frame m ρ,
  fun m ρ _ => Cert.ReferenceIdeal.Gen.frame m ρ,
  trivial,
  Cert.T1.algebraic⟩

end Cert.Proof

end
